-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x76x76 : Shape := ⟨4, ![16, 255, 76, 76]⟩
abbrev S16x255x38x38 : Shape := ⟨4, ![16, 255, 38, 38]⟩
abbrev S16x255x19x19 : Shape := ⟨4, ![16, 255, 19, 19]⟩
abbrev S16x3x85x5776 : Shape := ⟨4, ![16, 3, 85, 5776]⟩
abbrev S16x3x85x1444 : Shape := ⟨4, ![16, 3, 85, 1444]⟩
abbrev S16x3x85x361 : Shape := ⟨4, ![16, 3, 85, 361]⟩
abbrev S5776 : Shape := ⟨1, ![5776]⟩
abbrev S_ : Shape := ⟨0, ![]⟩
abbrev S1x5776 : Shape := ⟨2, ![1, 5776]⟩
abbrev S2x5776 : Shape := ⟨2, ![2, 5776]⟩
abbrev S1444 : Shape := ⟨1, ![1444]⟩
abbrev S1x1444 : Shape := ⟨2, ![1, 1444]⟩
abbrev S2x1444 : Shape := ⟨2, ![2, 1444]⟩
abbrev S361 : Shape := ⟨1, ![361]⟩
abbrev S1x361 : Shape := ⟨2, ![1, 361]⟩
abbrev S2x361 : Shape := ⟨2, ![2, 361]⟩
abbrev S16x22743x85 : Shape := ⟨3, ![16, 22743, 85]⟩
abbrev S1x3x85x5776 : Shape := ⟨4, ![1, 3, 85, 5776]⟩
abbrev S1x3x85x1444 : Shape := ⟨4, ![1, 3, 85, 1444]⟩
abbrev S1x3x85x361 : Shape := ⟨4, ![1, 3, 85, 361]⟩
abbrev S1x22743x85 : Shape := ⟨3, ![1, 22743, 85]⟩
abbrev S1x1x85x5776 : Shape := ⟨4, ![1, 1, 85, 5776]⟩
abbrev S85x5776 : Shape := ⟨2, ![85, 5776]⟩
abbrev S81x5776 : Shape := ⟨2, ![81, 5776]⟩
abbrev S5776x85 : Shape := ⟨2, ![5776, 85]⟩
abbrev S1x5776x85 : Shape := ⟨3, ![1, 5776, 85]⟩
abbrev S1x1x85x1444 : Shape := ⟨4, ![1, 1, 85, 1444]⟩
abbrev S85x1444 : Shape := ⟨2, ![85, 1444]⟩
abbrev S81x1444 : Shape := ⟨2, ![81, 1444]⟩
abbrev S1444x85 : Shape := ⟨2, ![1444, 85]⟩
abbrev S1x1444x85 : Shape := ⟨3, ![1, 1444, 85]⟩
abbrev S1x1x85x361 : Shape := ⟨4, ![1, 1, 85, 361]⟩
abbrev S85x361 : Shape := ⟨2, ![85, 361]⟩
abbrev S81x361 : Shape := ⟨2, ![81, 361]⟩
abbrev S361x85 : Shape := ⟨2, ![361, 85]⟩
abbrev S1x361x85 : Shape := ⟨3, ![1, 361, 85]⟩

abbrev nBuf : Space → Nat
  | .hbm => 97
  | .vmem => 11
  | .smem => 0
  | _ => 0

abbrev bufTy : (tb : Table) → Fin (tcTables nBuf tb) → BufTy
  | .hbm, ⟨0, _⟩ => ⟨S16x255x76x76, .f32⟩
  | .hbm, ⟨1, _⟩ => ⟨S16x255x38x38, .f32⟩
  | .hbm, ⟨2, _⟩ => ⟨S16x255x19x19, .f32⟩
  | .hbm, ⟨3, _⟩ => ⟨S16x3x85x5776, .f32⟩
  | .hbm, ⟨4, _⟩ => ⟨S16x3x85x1444, .f32⟩
  | .hbm, ⟨5, _⟩ => ⟨S16x3x85x361, .f32⟩
  | .hbm, ⟨6, _⟩ => ⟨S5776, .i32⟩
  | .hbm, ⟨7, _⟩ => ⟨S_, .i32⟩
  | .hbm, ⟨8, _⟩ => ⟨S5776, .i32⟩
  | .hbm, ⟨9, _⟩ => ⟨S5776, .i32⟩
  | .hbm, ⟨10, _⟩ => ⟨S5776, .f32⟩
  | .hbm, ⟨11, _⟩ => ⟨S_, .f32⟩
  | .hbm, ⟨12, _⟩ => ⟨S5776, .f32⟩
  | .hbm, ⟨13, _⟩ => ⟨S5776, .f32⟩
  | .hbm, ⟨14, _⟩ => ⟨S_, .f32⟩
  | .hbm, ⟨15, _⟩ => ⟨S5776, .f32⟩
  | .hbm, ⟨16, _⟩ => ⟨S5776, .f32⟩
  | .hbm, ⟨17, _⟩ => ⟨S_, .f32⟩
  | .hbm, ⟨18, _⟩ => ⟨S5776, .f32⟩
  | .hbm, ⟨19, _⟩ => ⟨S5776, .f32⟩
  | .hbm, ⟨20, _⟩ => ⟨S_, .i32⟩
  | .hbm, ⟨21, _⟩ => ⟨S5776, .i32⟩
  | .hbm, ⟨22, _⟩ => ⟨S5776, .i32⟩
  | .hbm, ⟨23, _⟩ => ⟨S5776, .f32⟩
  | .hbm, ⟨24, _⟩ => ⟨S_, .f32⟩
  | .hbm, ⟨25, _⟩ => ⟨S5776, .f32⟩
  | .hbm, ⟨26, _⟩ => ⟨S5776, .f32⟩
  | .hbm, ⟨27, _⟩ => ⟨S_, .f32⟩
  | .hbm, ⟨28, _⟩ => ⟨S5776, .f32⟩
  | .hbm, ⟨29, _⟩ => ⟨S5776, .f32⟩
  | .hbm, ⟨30, _⟩ => ⟨S_, .f32⟩
  | .hbm, ⟨31, _⟩ => ⟨S5776, .f32⟩
  | .hbm, ⟨32, _⟩ => ⟨S5776, .f32⟩
  | .hbm, ⟨33, _⟩ => ⟨S1x5776, .f32⟩
  | .hbm, ⟨34, _⟩ => ⟨S1x5776, .f32⟩
  | .hbm, ⟨35, _⟩ => ⟨S2x5776, .f32⟩
  | .hbm, ⟨36, _⟩ => ⟨S1444, .i32⟩
  | .hbm, ⟨37, _⟩ => ⟨S_, .i32⟩
  | .hbm, ⟨38, _⟩ => ⟨S1444, .i32⟩
  | .hbm, ⟨39, _⟩ => ⟨S1444, .i32⟩
  | .hbm, ⟨40, _⟩ => ⟨S1444, .f32⟩
  | .hbm, ⟨41, _⟩ => ⟨S_, .f32⟩
  | .hbm, ⟨42, _⟩ => ⟨S1444, .f32⟩
  | .hbm, ⟨43, _⟩ => ⟨S1444, .f32⟩
  | .hbm, ⟨44, _⟩ => ⟨S_, .f32⟩
  | .hbm, ⟨45, _⟩ => ⟨S1444, .f32⟩
  | .hbm, ⟨46, _⟩ => ⟨S1444, .f32⟩
  | .hbm, ⟨47, _⟩ => ⟨S_, .f32⟩
  | .hbm, ⟨48, _⟩ => ⟨S1444, .f32⟩
  | .hbm, ⟨49, _⟩ => ⟨S1444, .f32⟩
  | .hbm, ⟨50, _⟩ => ⟨S_, .i32⟩
  | .hbm, ⟨51, _⟩ => ⟨S1444, .i32⟩
  | .hbm, ⟨52, _⟩ => ⟨S1444, .i32⟩
  | .hbm, ⟨53, _⟩ => ⟨S1444, .f32⟩
  | .hbm, ⟨54, _⟩ => ⟨S_, .f32⟩
  | .hbm, ⟨55, _⟩ => ⟨S1444, .f32⟩
  | .hbm, ⟨56, _⟩ => ⟨S1444, .f32⟩
  | .hbm, ⟨57, _⟩ => ⟨S_, .f32⟩
  | .hbm, ⟨58, _⟩ => ⟨S1444, .f32⟩
  | .hbm, ⟨59, _⟩ => ⟨S1444, .f32⟩
  | .hbm, ⟨60, _⟩ => ⟨S_, .f32⟩
  | .hbm, ⟨61, _⟩ => ⟨S1444, .f32⟩
  | .hbm, ⟨62, _⟩ => ⟨S1444, .f32⟩
  | .hbm, ⟨63, _⟩ => ⟨S1x1444, .f32⟩
  | .hbm, ⟨64, _⟩ => ⟨S1x1444, .f32⟩
  | .hbm, ⟨65, _⟩ => ⟨S2x1444, .f32⟩
  | .hbm, ⟨66, _⟩ => ⟨S361, .i32⟩
  | .hbm, ⟨67, _⟩ => ⟨S_, .i32⟩
  | .hbm, ⟨68, _⟩ => ⟨S361, .i32⟩
  | .hbm, ⟨69, _⟩ => ⟨S361, .i32⟩
  | .hbm, ⟨70, _⟩ => ⟨S361, .f32⟩
  | .hbm, ⟨71, _⟩ => ⟨S_, .f32⟩
  | .hbm, ⟨72, _⟩ => ⟨S361, .f32⟩
  | .hbm, ⟨73, _⟩ => ⟨S361, .f32⟩
  | .hbm, ⟨74, _⟩ => ⟨S_, .f32⟩
  | .hbm, ⟨75, _⟩ => ⟨S361, .f32⟩
  | .hbm, ⟨76, _⟩ => ⟨S361, .f32⟩
  | .hbm, ⟨77, _⟩ => ⟨S_, .f32⟩
  | .hbm, ⟨78, _⟩ => ⟨S361, .f32⟩
  | .hbm, ⟨79, _⟩ => ⟨S361, .f32⟩
  | .hbm, ⟨80, _⟩ => ⟨S_, .i32⟩
  | .hbm, ⟨81, _⟩ => ⟨S361, .i32⟩
  | .hbm, ⟨82, _⟩ => ⟨S361, .i32⟩
  | .hbm, ⟨83, _⟩ => ⟨S361, .f32⟩
  | .hbm, ⟨84, _⟩ => ⟨S_, .f32⟩
  | .hbm, ⟨85, _⟩ => ⟨S361, .f32⟩
  | .hbm, ⟨86, _⟩ => ⟨S361, .f32⟩
  | .hbm, ⟨87, _⟩ => ⟨S_, .f32⟩
  | .hbm, ⟨88, _⟩ => ⟨S361, .f32⟩
  | .hbm, ⟨89, _⟩ => ⟨S361, .f32⟩
  | .hbm, ⟨90, _⟩ => ⟨S_, .f32⟩
  | .hbm, ⟨91, _⟩ => ⟨S361, .f32⟩
  | .hbm, ⟨92, _⟩ => ⟨S361, .f32⟩
  | .hbm, ⟨93, _⟩ => ⟨S1x361, .f32⟩
  | .hbm, ⟨94, _⟩ => ⟨S1x361, .f32⟩
  | .hbm, ⟨95, _⟩ => ⟨S2x361, .f32⟩
  | .hbm, ⟨96, _⟩ => ⟨S16x22743x85, .f32⟩
  | .local _ .vmem, ⟨0, _⟩ => ⟨S1x3x85x5776, .f32⟩
  | .local _ .vmem, ⟨1, _⟩ => ⟨S1x3x85x5776, .f32⟩
  | .local _ .vmem, ⟨2, _⟩ => ⟨S1x3x85x1444, .f32⟩
  | .local _ .vmem, ⟨3, _⟩ => ⟨S1x3x85x1444, .f32⟩
  | .local _ .vmem, ⟨4, _⟩ => ⟨S1x3x85x361, .f32⟩
  | .local _ .vmem, ⟨5, _⟩ => ⟨S1x3x85x361, .f32⟩
  | .local _ .vmem, ⟨6, _⟩ => ⟨S2x5776, .f32⟩
  | .local _ .vmem, ⟨7, _⟩ => ⟨S2x1444, .f32⟩
  | .local _ .vmem, ⟨8, _⟩ => ⟨S2x361, .f32⟩
  | .local _ .vmem, ⟨9, _⟩ => ⟨S1x22743x85, .f32⟩
  | .local _ .vmem, ⟨10, _⟩ => ⟨S1x22743x85, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_cst_17 : Ref sig .tc := ⟨.hbm, 77, rfl⟩
abbrev main_v55 : Ref sig .tc := ⟨.hbm, 78, rfl⟩
abbrev main_v56 : Ref sig .tc := ⟨.hbm, 79, rfl⟩
abbrev main_c_18 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x85x5776 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x85x1444 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x85x361 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x5776 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1444 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x361 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x22743x85 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x255x76x76 : Shape := ⟨4, ![16, 255, 76, 76]⟩
abbrev S16x255x38x38 : Shape := ⟨4, ![16, 255, 38, 38]⟩
abbrev S16x255x19x19 : Shape := ⟨4, ![16, 255, 19, 19]⟩
abbrev S3x2 : Shape := ⟨2, ![3, 2]⟩
abbrev S16x3x85x76x76 : Shape := ⟨5, ![16, 3, 85, 76, 76]⟩
abbrev S16x76x76x3x85 : Shape := ⟨5, ![16, 76, 76, 3, 85]⟩
abbrev S76 : Shape := ⟨1, ![76]⟩
abbrev S1x1x76x1x1 : Shape := ⟨5, ![1, 1, 76, 1, 1]⟩
abbrev S16x76x76x3x1 : Shape := ⟨5, ![16, 76, 76, 3, 1]⟩
abbrev S1x76x1x1x1 : Shape := ⟨5, ![1, 76, 1, 1, 1]⟩
abbrev S16x76x76x3x2 : Shape := ⟨5, ![16, 76, 76, 3, 2]⟩
abbrev S1x1x1x3x2 : Shape := ⟨5, ![1, 1, 1, 3, 2]⟩
abbrev S_ : Shape := ⟨0, ![]⟩
abbrev S16x76x76x3x81 : Shape := ⟨5, ![16, 76, 76, 3, 81]⟩
abbrev S16x17328x85 : Shape := ⟨3, ![16, 17328, 85]⟩
abbrev S16x3x85x38x38 : Shape := ⟨5, ![16, 3, 85, 38, 38]⟩
abbrev S16x38x38x3x85 : Shape := ⟨5, ![16, 38, 38, 3, 85]⟩
abbrev S38 : Shape := ⟨1, ![38]⟩
abbrev S1x1x38x1x1 : Shape := ⟨5, ![1, 1, 38, 1, 1]⟩
abbrev S16x38x38x3x1 : Shape := ⟨5, ![16, 38, 38, 3, 1]⟩
abbrev S1x38x1x1x1 : Shape := ⟨5, ![1, 38, 1, 1, 1]⟩
abbrev S16x38x38x3x2 : Shape := ⟨5, ![16, 38, 38, 3, 2]⟩
abbrev S16x38x38x3x81 : Shape := ⟨5, ![16, 38, 38, 3, 81]⟩
abbrev S16x4332x85 : Shape := ⟨3, ![16, 4332, 85]⟩
abbrev S16x3x85x19x19 : Shape := ⟨5, ![16, 3, 85, 19, 19]⟩
abbrev S16x19x19x3x85 : Shape := ⟨5, ![16, 19, 19, 3, 85]⟩
abbrev S19 : Shape := ⟨1, ![19]⟩
abbrev S1x1x19x1x1 : Shape := ⟨5, ![1, 1, 19, 1, 1]⟩
abbrev S16x19x19x3x1 : Shape := ⟨5, ![16, 19, 19, 3, 1]⟩
abbrev S1x19x1x1x1 : Shape := ⟨5, ![1, 19, 1, 1, 1]⟩
abbrev S16x19x19x3x2 : Shape := ⟨5, ![16, 19, 19, 3, 2]⟩
abbrev S16x19x19x3x81 : Shape := ⟨5, ![16, 19, 19, 3, 81]⟩
abbrev S16x1083x85 : Shape := ⟨3, ![16, 1083, 85]⟩
abbrev S16x22743x85 : Shape := ⟨3, ![16, 22743, 85]⟩

abbrev nBuf : Space → Nat
  | .hbm => 136
  | .vmem => 0
  | .smem => 0
  | _ => 0

abbrev hbmTy0_0 (i : Nat) : BufTy := match i % 128 with
  | 0 => ⟨S16x255x76x76, .f32⟩
  | 1 => ⟨S16x255x38x38, .f32⟩
  | 2 => ⟨S16x255x19x19, .f32⟩
  | 3 => ⟨S3x2, .f32⟩
  | 4 => ⟨S3x2, .f32⟩
  | 5 => ⟨S3x2, .f32⟩
  | 6 => ⟨S16x3x85x76x76, .f32⟩
  | 7 => ⟨S16x76x76x3x85, .f32⟩
  | 8 => ⟨S76, .f32⟩
  | 9 => ⟨S1x1x76x1x1, .f32⟩
  | 10 => ⟨S16x76x76x3x1, .f32⟩
  | 11 => ⟨S1x76x1x1x1, .f32⟩
  | 12 => ⟨S16x76x76x3x1, .f32⟩
  | 13 => ⟨S16x76x76x3x2, .f32⟩
  | 14 => ⟨S1x1x1x3x2, .f32⟩
  | 15 => ⟨S16x76x76x3x2, .f32⟩
  | 16 => ⟨S16x76x76x3x2, .f32⟩
  | 17 => ⟨S16x76x76x3x2, .f32⟩
  | 18 => ⟨S16x76x76x3x2, .f32⟩
  | 19 => ⟨S_, .f32⟩
  | 20 => ⟨S16x76x76x3x2, .f32⟩
  | 21 => ⟨S16x76x76x3x2, .f32⟩
  | 22 => ⟨S_, .f32⟩
  | 23 => ⟨S16x76x76x3x2, .f32⟩
  | 24 => ⟨S16x76x76x3x2, .f32⟩
  | 25 => ⟨S_, .f32⟩
  | 26 => ⟨S16x76x76x3x2, .f32⟩
  | 27 => ⟨S16x76x76x3x2, .f32⟩
  | 28 => ⟨S_, .f32⟩
  | 29 => ⟨S16x76x76x3x2, .f32⟩
  | 30 => ⟨S16x76x76x3x2, .f32⟩
  | 31 => ⟨S16x76x76x3x2, .f32⟩
  | 32 => ⟨S_, .f32⟩
  | 33 => ⟨S16x76x76x3x2, .f32⟩
  | 34 => ⟨S16x76x76x3x2, .f32⟩
  | 35 => ⟨S16x76x76x3x2, .f32⟩
  | 36 => ⟨S16x76x76x3x2, .f32⟩
  | 37 => ⟨S16x76x76x3x2, .f32⟩
  | 38 => ⟨S16x76x76x3x81, .f32⟩
  | 39 => ⟨S16x76x76x3x81, .f32⟩
  | 40 => ⟨S16x76x76x3x81, .f32⟩
  | 41 => ⟨S_, .f32⟩
  | 42 => ⟨S16x76x76x3x81, .f32⟩
  | 43 => ⟨S16x76x76x3x81, .f32⟩
  | 44 => ⟨S_, .f32⟩
  | 45 => ⟨S16x76x76x3x81, .f32⟩
  | 46 => ⟨S16x76x76x3x81, .f32⟩
  | 47 => ⟨S16x76x76x3x85, .f32⟩
  | 48 => ⟨S16x17328x85, .f32⟩
  | 49 => ⟨S16x3x85x38x38, .f32⟩
  | 50 => ⟨S16x38x38x3x85, .f32⟩
  | 51 => ⟨S38, .f32⟩
  | 52 => ⟨S1x1x38x1x1, .f32⟩
  | 53 => ⟨S16x38x38x3x1, .f32⟩
  | 54 => ⟨S1x38x1x1x1, .f32⟩
  | 55 => ⟨S16x38x38x3x1, .f32⟩
  | 56 => ⟨S16x38x38x3x2, .f32⟩
  | 57 => ⟨S1x1x1x3x2, .f32⟩
  | 58 => ⟨S16x38x38x3x2, .f32⟩
  | 59 => ⟨S16x38x38x3x2, .f32⟩
  | 60 => ⟨S16x38x38x3x2, .f32⟩
  | 61 => ⟨S16x38x38x3x2, .f32⟩
  | 62 => ⟨S_, .f32⟩
  | 63 => ⟨S16x38x38x3x2, .f32⟩
  | 64 => ⟨S16x38x38x3x2, .f32⟩
  | 65 => ⟨S_, .f32⟩
  | 66 => ⟨S16x38x38x3x2, .f32⟩
  | 67 => ⟨S16x38x38x3x2, .f32⟩
  | 68 => ⟨S_, .f32⟩
  | 69 => ⟨S16x38x38x3x2, .f32⟩
  | 70 => ⟨S16x38x38x3x2, .f32⟩
  | 71 => ⟨S_, .f32⟩
  | 72 => ⟨S16x38x38x3x2, .f32⟩
  | 73 => ⟨S16x38x38x3x2, .f32⟩
  | 74 => ⟨S16x38x38x3x2, .f32⟩
  | 75 => ⟨S_, .f32⟩
  | 76 => ⟨S16x38x38x3x2, .f32⟩
  | 77 => ⟨S16x38x38x3x2, .f32⟩
  | 78 => ⟨S16x38x38x3x2, .f32⟩
  | 79 => ⟨S16x38x38x3x2, .f32⟩
  | 80 => ⟨S16x38x38x3x2, .f32⟩
  | 81 => ⟨S16x38x38x3x81, .f32⟩
  | 82 => ⟨S16x38x38x3x81, .f32⟩
  | 83 => ⟨S16x38x38x3x81, .f32⟩
  | 84 => ⟨S_, .f32⟩
  | 85 => ⟨S16x38x38x3x81, .f32⟩
  | 86 => ⟨S16x38x38x3x81, .f32⟩
  | 87 => ⟨S_, .f32⟩
  | 88 => ⟨S16x38x38x3x81, .f32⟩
  | 89 => ⟨S16x38x38x3x81, .f32⟩
  | 90 => ⟨S16x38x38x3x85, .f32⟩
  | 91 => ⟨S16x4332x85, .f32⟩
  | 92 => ⟨S16x3x85x19x19, .f32⟩
  | 93 => ⟨S16x19x19x3x85, .f32⟩
  | 94 => ⟨S19, .f32⟩
  | 95 => ⟨S1x1x19x1x1, .f32⟩
  | 96 => ⟨S16x19x19x3x1, .f32⟩
  | 97 => ⟨S1x19x1x1x1, .f32⟩
  | 98 => ⟨S16x19x19x3x1, .f32⟩
  | 99 => ⟨S16x19x19x3x2, .f32⟩
  | 100 => ⟨S1x1x1x3x2, .f32⟩
  | 101 => ⟨S16x19x19x3x2, .f32⟩
  | 102 => ⟨S16x19x19x3x2, .f32⟩
  | 103 => ⟨S16x19x19x3x2, .f32⟩
  | 104 => ⟨S16x19x19x3x2, .f32⟩
  | 105 => ⟨S_, .f32⟩
  | 106 => ⟨S16x19x19x3x2, .f32⟩
  | 107 => ⟨S16x19x19x3x2, .f32⟩
  | 108 => ⟨S_, .f32⟩
  | 109 => ⟨S16x19x19x3x2, .f32⟩
  | 110 => ⟨S16x19x19x3x2, .f32⟩
  | 111 => ⟨S_, .f32⟩
  | 112 => ⟨S16x19x19x3x2, .f32⟩
  | 113 => ⟨S16x19x19x3x2, .f32⟩
  | 114 => ⟨S_, .f32⟩
  | 115 => ⟨S16x19x19x3x2, .f32⟩
  | 116 => ⟨S16x19x19x3x2, .f32⟩
  | 117 => ⟨S16x19x19x3x2, .f32⟩
  | 118 => ⟨S_, .f32⟩
  | 119 => ⟨S16x19x19x3x2, .f32⟩
  | 120 => ⟨S16x19x19x3x2, .f32⟩
  | 121 => ⟨S16x19x19x3x2, .f32⟩
  | 122 => ⟨S16x19x19x3x2, .f32⟩
  | 123 => ⟨S16x19x19x3x2, .f32⟩
  | 124 => ⟨S16x19x19x3x81, .f32⟩
  | 125 => ⟨S16x19x19x3x81, .f32⟩
  | 126 => ⟨S16x19x19x3x81, .f32⟩
  | 127 => ⟨S_, .f32⟩
  | _ => ⟨S16x255x76x76, .f32⟩

abbrev hbmTy0_1 (i : Nat) : BufTy := match i % 128 with
  | 0 => ⟨S16x19x19x3x81, .f32⟩
  | 1 => ⟨S16x19x19x3x81, .f32⟩
  | 2 => ⟨S_, .f32⟩
  | 3 => ⟨S16x19x19x3x81, .f32⟩
  | 4 => ⟨S16x19x19x3x81, .f32⟩
  | 5 => ⟨S16x19x19x3x85, .f32⟩
  | 6 => ⟨S16x1083x85, .f32⟩
  | 7 => ⟨S16x22743x85, .f32⟩
  | _ => ⟨S16x255x76x76, .f32⟩

abbrev hbmTy (i : Nat) : BufTy := match i / 128 with
  | 0 => hbmTy0_0 i
  | 1 => hbmTy0_1 i
  | _ => ⟨S16x255x76x76, .f32⟩

abbrev bufTy : (tb : Table) → Fin (tcTables nBuf tb) → BufTy
  | .hbm, ⟨i, _⟩ => hbmTy i
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_16 : Ref sig .tc := ⟨.hbm, 105, rfl⟩
abbrev main_v85 : Ref sig .tc := ⟨.hbm, 106, rfl⟩
abbrev main_v86 : Ref sig .tc := ⟨.hbm, 107, rfl⟩
abbrev main_cst_17 : Ref sig .tc := ⟨.hbm, 108, rfl⟩
abbrev main_v87 : Ref sig .tc := ⟨.hbm, 109, rfl⟩
abbrev main_v88 : Ref sig .tc := ⟨.hbm, 110, rfl⟩
abbrev main_cst_18 : Ref sig .tc := ⟨.hbm, 111, rfl⟩
abbrev main_v89 : Ref sig .tc := ⟨.hbm, 112, rfl⟩
abbrev main_v90 : Ref sig .tc := ⟨.hbm, 113, rfl⟩
abbrev main_cst_19 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_20 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_21 : Ref sig .tc := ⟨.hbm, 127, rfl⟩
abbrev main_v102 : Ref sig .tc := ⟨.hbm, 128, rfl⟩
abbrev main_v103 : Ref sig .tc := ⟨.hbm, 129, rfl⟩
abbrev main_cst_22 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩

abbrev nD : Nat := 1
abbrev τ : Topo := Topo.v7x

variable {F : FTy → Type} [FloatOps F]
-- ==== Proof.Body.lean ====
/-
  The kernel's body, run once for any float instance: what its nine strided stores leave in the output block
  (`outBlock`), that they cover the block, the body's triple, the proof data of the pipeline and the run of the
  whole program.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles -/

/-- The boxes the body loads: anchor `a` of a feature map, and a whole table of grid offsets. -/
abbrev inBox00 : Rect S1x3x85x5776 := Rect.unit (s := S1x3x85x5776) ![0, 0, 0, 0] S1x1x85x5776.size inb_S1x3x85x5776_S1x1x85x5776_0_0_0_0
abbrev inBox01 : Rect S1x3x85x5776 := Rect.unit (s := S1x3x85x5776) ![0, 1, 0, 0] S1x1x85x5776.size inb_S1x3x85x5776_S1x1x85x5776_0_1_0_0
abbrev inBox02 : Rect S1x3x85x5776 := Rect.unit (s := S1x3x85x5776) ![0, 2, 0, 0] S1x1x85x5776.size inb_S1x3x85x5776_S1x1x85x5776_0_2_0_0
abbrev tabBox0 : Rect S2x5776 := Rect.unit (s := S2x5776) ![0, 0] S2x5776.size inb_S2x5776_S2x5776_0_0
abbrev inBox10 : Rect S1x3x85x1444 := Rect.unit (s := S1x3x85x1444) ![0, 0, 0, 0] S1x1x85x1444.size inb_S1x3x85x1444_S1x1x85x1444_0_0_0_0
abbrev inBox11 : Rect S1x3x85x1444 := Rect.unit (s := S1x3x85x1444) ![0, 1, 0, 0] S1x1x85x1444.size inb_S1x3x85x1444_S1x1x85x1444_0_1_0_0
abbrev inBox12 : Rect S1x3x85x1444 := Rect.unit (s := S1x3x85x1444) ![0, 2, 0, 0] S1x1x85x1444.size inb_S1x3x85x1444_S1x1x85x1444_0_2_0_0
abbrev tabBox1 : Rect S2x1444 := Rect.unit (s := S2x1444) ![0, 0] S2x1444.size inb_S2x1444_S2x1444_0_0
abbrev inBox20 : Rect S1x3x85x361 := Rect.unit (s := S1x3x85x361) ![0, 0, 0, 0] S1x1x85x361.size inb_S1x3x85x361_S1x1x85x361_0_0_0_0
abbrev inBox21 : Rect S1x3x85x361 := Rect.unit (s := S1x3x85x361) ![0, 1, 0, 0] S1x1x85x361.size inb_S1x3x85x361_S1x1x85x361_0_1_0_0
abbrev inBox22 : Rect S1x3x85x361 := Rect.unit (s := S1x3x85x361) ![0, 2, 0, 0] S1x1x85x361.size inb_S1x3x85x361_S1x1x85x361_0_2_0_0
abbrev tabBox2 : Rect S2x361 := Rect.unit (s := S2x361) ![0, 0] S2x361.size inb_S2x361_S2x361_0_0

/-- The boxes the body stores: every third row of the output block, from the scale's first row plus the anchor. -/
abbrev outBox00 : Rect S1x22743x85 :=
  ⟨(⟨![0, 0, 0], S1x5776x85.size, ![1, 3, 1], inb_S1x22743x85_S1x5776x85_0_0_0_s_1_3_1⟩ : LoadRect S1x22743x85), spos_1_3_1⟩
abbrev outBox01 : Rect S1x22743x85 :=
  ⟨(⟨![0, 1, 0], S1x5776x85.size, ![1, 3, 1], inb_S1x22743x85_S1x5776x85_0_1_0_s_1_3_1⟩ : LoadRect S1x22743x85), spos_1_3_1⟩
abbrev outBox02 : Rect S1x22743x85 :=
  ⟨(⟨![0, 2, 0], S1x5776x85.size, ![1, 3, 1], inb_S1x22743x85_S1x5776x85_0_2_0_s_1_3_1⟩ : LoadRect S1x22743x85), spos_1_3_1⟩
abbrev outBox10 : Rect S1x22743x85 :=
  ⟨(⟨![0, 17328, 0], S1x1444x85.size, ![1, 3, 1], inb_S1x22743x85_S1x1444x85_0_17328_0_s_1_3_1⟩ : LoadRect S1x22743x85), spos_1_3_1⟩
abbrev outBox11 : Rect S1x22743x85 :=
  ⟨(⟨![0, 17329, 0], S1x1444x85.size, ![1, 3, 1], inb_S1x22743x85_S1x1444x85_0_17329_0_s_1_3_1⟩ : LoadRect S1x22743x85), spos_1_3_1⟩
abbrev outBox12 : Rect S1x22743x85 :=
  ⟨(⟨![0, 17330, 0], S1x1444x85.size, ![1, 3, 1], inb_S1x22743x85_S1x1444x85_0_17330_0_s_1_3_1⟩ : LoadRect S1x22743x85), spos_1_3_1⟩
abbrev outBox20 : Rect S1x22743x85 :=
  ⟨(⟨![0, 21660, 0], S1x361x85.size, ![1, 3, 1], inb_S1x22743x85_S1x361x85_0_21660_0_s_1_3_1⟩ : LoadRect S1x22743x85), spos_1_3_1⟩
abbrev outBox21 : Rect S1x22743x85 :=
  ⟨(⟨![0, 21661, 0], S1x361x85.size, ![1, 3, 1], inb_S1x22743x85_S1x361x85_0_21661_0_s_1_3_1⟩ : LoadRect S1x22743x85), spos_1_3_1⟩
abbrev outBox22 : Rect S1x22743x85 :=
  ⟨(⟨![0, 21662, 0], S1x361x85.size, ![1, 3, 1], inb_S1x22743x85_S1x361x85_0_21662_0_s_1_3_1⟩ : LoadRect S1x22743x85), spos_1_3_1⟩

/-! ## What the stores leave -/

/-- The output block after the body, from the input windows' blocks: the nine stores' pieces, the last one first. -/
def outBlock (x0 : Vec F S1x3x85x5776 .f32) (x1 : Vec F S1x3x85x1444 .f32) (x2 : Vec F S1x3x85x361 .f32)
    (x3 : Vec F S2x5776 .f32) (x4 : Vec F S2x1444 .f32) (x5 : Vec F S2x361 .f32) : Vec F S1x22743x85 .f32 :=
  View.canon [⟨outBox22, k0_pay1 (k0_pay28 (View.ld x2 inBox22) (View.ld x5 tabBox2)) (k0_pay29 (View.ld x2 inBox22)) (k0_pay30 (View.ld x2 inBox22)) (k0_pay31 (View.ld x2 inBox22)) (Scalar.ofBits .f32 0x3F000000#32)⟩,
    ⟨outBox21, k0_pay26 (k0_pay22 (View.ld x2 inBox21)) (k0_pay23 (View.ld x2 inBox21) (View.ld x5 tabBox2)) (k0_pay24 (View.ld x2 inBox21)) k0_pay25⟩,
    ⟨outBox20, k0_pay21 (k0_pay19 (View.ld x2 inBox20)) (k0_pay20 (View.ld x2 inBox20)) (View.ld x5 tabBox2)⟩,
    ⟨outBox12, k0_pay18 (View.ld x1 inBox12) (View.ld x4 tabBox1)⟩,
    ⟨outBox11, k0_pay17 (View.ld x1 inBox11) (View.ld x4 tabBox1)⟩,
    ⟨outBox10, k0_pay16 (k0_pay12 (View.ld x1 inBox10) (View.ld x4 tabBox1)) (k0_pay13 (View.ld x1 inBox10)) (k0_pay14 (View.ld x1 inBox10)) (k0_pay15 (View.ld x1 inBox10)) (Scalar.ofBits .f32 0x3F000000#32)⟩,
    ⟨outBox02, k0_pay10 (k0_pay6 (View.ld x0 inBox02)) (k0_pay7 (View.ld x0 inBox02) (View.ld x3 tabBox0)) (k0_pay8 (View.ld x0 inBox02)) k0_pay9⟩,
    ⟨outBox01, k0_pay5 (k0_pay3 (View.ld x0 inBox01)) (k0_pay4 (View.ld x0 inBox01)) (View.ld x3 tabBox0)⟩,
    ⟨outBox00, k0_pay2 (View.ld x0 inBox00) (View.ld x3 tabBox0)⟩]

/-- A row `off + 3·k` with `k` below `n` lies in the box of every third row from `off`. -/
theorem mem_box {off n : ℕ} {inb} {sp} (y : S1x22743x85.Idx) (k : ℕ) (hk : k < n) (h : (y 1 : ℕ) = off + 3 * k) :
    y ∈ (⟨(⟨![0, off, 0], ![1, n, 85], ![1, 3, 1], inb⟩ : LoadRect S1x22743x85), sp⟩ : Rect S1x22743x85).set := by
  rw [LoadRect.mem_set]
  intro a
  match a with
  | ⟨0, _⟩ => exact ⟨0, Nat.one_pos, by have := (y 0).isLt; show (y 0 : ℕ) = 0 + 1 * 0; simp at this ⊢; omega⟩
  | ⟨1, _⟩ => exact ⟨k, hk, h⟩
  | ⟨2, _⟩ => exact ⟨(y 2 : ℕ), (y 2).isLt, show (y 2 : ℕ) = 0 + 1 * (y 2 : ℕ) by omega⟩

/-- The nine boxes cover the block: rows below 17328, below 21660 and the rest, each by its remainder modulo three. -/
theorem cover
    (p00 : Vec F S1x5776x85 .f32)
    (p01 : Vec F S1x5776x85 .f32)
    (p02 : Vec F S1x5776x85 .f32)
    (p10 : Vec F S1x1444x85 .f32)
    (p11 : Vec F S1x1444x85 .f32)
    (p12 : Vec F S1x1444x85 .f32)
    (p20 : Vec F S1x361x85 .f32)
    (p21 : Vec F S1x361x85 .f32)
    (p22 : Vec F S1x361x85 .f32) (y : S1x22743x85.Idx) :
    ∃ pc ∈ ([⟨outBox22, p22⟩, ⟨outBox21, p21⟩, ⟨outBox20, p20⟩, ⟨outBox12, p12⟩, ⟨outBox11, p11⟩, ⟨outBox10, p10⟩, ⟨outBox02, p02⟩, ⟨outBox01, p01⟩, ⟨outBox00, p00⟩] :
      List (View.Piece (Elt F) S1x22743x85 .f32)), y ∈ pc.1.set := by
  have hy : (y 1 : ℕ) < 22743 := (y 1).isLt
  simp only [List.mem_cons, List.not_mem_nil, or_false, exists_eq_or_imp, exists_eq_left]
  rcases Nat.lt_or_ge (y 1 : ℕ) 17328 with h | h
  · have h3 : ((y 1 : ℕ) - 0) % 3 = 0 ∨ ((y 1 : ℕ) - 0) % 3 = 1 ∨ ((y 1 : ℕ) - 0) % 3 = 2 := by omega
    rcases h3 with h3 | h3 | h3
    · exact .inr (.inr (.inr (.inr (.inr (.inr (.inr (.inr (mem_box (sp := spos_1_3_1) y (((y 1 : ℕ) - 0) / 3) (by omega) (by omega)))))))))
    · exact .inr (.inr (.inr (.inr (.inr (.inr (.inr (.inl (mem_box (sp := spos_1_3_1) y (((y 1 : ℕ) - 0) / 3) (by omega) (by omega)))))))))
    · exact .inr (.inr (.inr (.inr (.inr (.inr (.inl (mem_box (sp := spos_1_3_1) y (((y 1 : ℕ) - 0) / 3) (by omega) (by omega))))))))
  · rcases Nat.lt_or_ge (y 1 : ℕ) 21660 with h' | h'
    · have h3 : ((y 1 : ℕ) - 17328) % 3 = 0 ∨ ((y 1 : ℕ) - 17328) % 3 = 1 ∨ ((y 1 : ℕ) - 17328) % 3 = 2 := by omega
      rcases h3 with h3 | h3 | h3
      · exact .inr (.inr (.inr (.inr (.inr (.inl (mem_box (sp := spos_1_3_1) y (((y 1 : ℕ) - 17328) / 3) (by omega) (by omega)))))))
      · exact .inr (.inr (.inr (.inr (.inl (mem_box (sp := spos_1_3_1) y (((y 1 : ℕ) - 17328) / 3) (by omega) (by omega))))))
      · exact .inr (.inr (.inr (.inl (mem_box (sp := spos_1_3_1) y (((y 1 : ℕ) - 17328) / 3) (by omega) (by omega)))))
    · have h3 : ((y 1 : ℕ) - 21660) % 3 = 0 ∨ ((y 1 : ℕ) - 21660) % 3 = 1 ∨ ((y 1 : ℕ) - 21660) % 3 = 2 := by omega
      rcases h3 with h3 | h3 | h3
      · exact .inr (.inr (.inl (mem_box (sp := spos_1_3_1) y (((y 1 : ℕ) - 21660) / 3) (by omega) (by omega))))
      · exact .inr (.inl (mem_box (sp := spos_1_3_1) y (((y 1 : ℕ) - 21660) / 3) (by omega) (by omega)))
      · exact .inl (mem_box (sp := spos_1_3_1) y (((y 1 : ℕ) - 21660) / 3) (by omega) (by omega))

/-! ## The body's triple -/

set_option maxHeartbeats 4000000 in
/-- The body on whole staging memrefs, the inputs' at the contents `x0 … x5` and the output's at anything, leaves the
    inputs' as they were and the output's at `outBlock` of them. -/
theorem body_triple (c : Dev nD) (E : Set ℕ) (i : grid0.Coords) (arg1 : Memref sig .tc .vmem S1x3x85x5776 .f32) (harg1 : arg1.IsWhole) (arg2 : Memref sig .tc .vmem S1x3x85x1444 .f32) (harg2 : arg2.IsWhole) (arg3 : Memref sig .tc .vmem S1x3x85x361 .f32) (harg3 : arg3.IsWhole) (arg4 : Memref sig .tc .vmem S2x5776 .f32) (harg4 : arg4.IsWhole) (arg5 : Memref sig .tc .vmem S2x1444 .f32) (harg5 : arg5.IsWhole) (arg6 : Memref sig .tc .vmem S2x361 .f32) (harg6 : arg6.IsWhole) (arg7 : Memref sig .tc .vmem S1x22743x85 .f32) (harg7 : arg7.IsWhole)
    (x0 : Vec F S1x3x85x5776 .f32) (x1 : Vec F S1x3x85x1444 .f32) (x2 : Vec F S1x3x85x361 .f32)
    (x3 : Vec F S2x5776 .f32) (x4 : Vec F S2x1444 .f32) (x5 : Vec F S2x361 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outBlock x0 x1 x2 x3 x4 x5)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover _ _ _ _ _ _ _ _ _)).trans ?_
  rfl

/-! ## The pipeline's proof data -/

variable (m : (ℓ : Loc nD τ sig) → Buf (Elt F) ℓ) (ρ : Dev nD → PrngReg)

/-- The proof data on core `c`: the arrays as the region finds them; after the body at point `t` each input's buffer
    at its block and the output's at `outBlock` of the blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves in each window's buffer, and what it finds in each input's. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = outBlock (iblk m c 0 t) (iblk m c 1 t) (iblk m c 2 t) (iblk m c 3 t) (iblk m c 4 t) (iblk m c 5 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so `body_triple` applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) :
    BodyObligation (dats (F := F) m 0 c) (defs₀ (F := F)) Variants.none () Set.univ := fun t => by
  rw [bigSep_W0, bigSep_W0, defs₀_row]
  exact triple_restated (body_at m c t) rfl .rfl fun _ => .rfl

/-! ## The run -/

set_option backward.isDefEq.respectTransparency.types false in
set_option maxHeartbeats 2000000 in
/-- Every fair execution of @main terminates; at the end every array of the pipeline holds what the proof data
    computes, every other buffer what the region found, and every semaphore counter is zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun _ w => by unfold Dat.share; split <;> rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.Same.lean ====
/-
  The kernel and its idealization are one text, so the run proved of the second for any float values is the first's:
  their body tables are equal, and the kernel's frame follows.
-/
module

public import proofs.«01_k».proof.Defs
public import proofs.«01_k».proof.Proof.Gen.Kernel
public import proofs.«01_k».proof.Proof.Gen.KernelIdeal
public import proofs.«01_k».proof.Proof.Body

@[expose] public section

noncomputable section

namespace Cert.Same

open Idealize.ShloMosaic Idealize.SL.Sem

set_option maxHeartbeats 1000000
set_option maxRecDepth 65536

/-- The two programs' kernel bodies, label by label. -/
theorem bodies_eq : @Cert.Kernel.defs₀ Bits _ Cert.Kernel.Gen.facts = @Cert.KernelIdeal.defs₀ Bits _ Cert.KernelIdeal.Gen.facts := by
  funext p l a
  match p, l, a with
  | .tc, ⟨0, _⟩, (t, s) => rfl
  | .scScalar _, ⟨0, _⟩, a => rfl
  | .scVector _ _, ⟨0, _⟩, a => rfl

/-- The two programs' body tables. -/
theorem table_eq : @Cert.Kernel.defs Bits _ Cert.Kernel.Gen.facts = @Cert.KernelIdeal.defs Bits _ Cert.KernelIdeal.Gen.facts := by
  unfold Cert.Kernel.defs Cert.KernelIdeal.defs
  rw [bodies_eq]
  rfl

/-- The two programs' host functions. -/
theorem main_eq : @Cert.Kernel.main Bits _ Cert.Kernel.Gen.facts = @Cert.KernelIdeal.main Bits _ Cert.KernelIdeal.Gen.facts := rfl

/-- The frame, of any body table and host function that are the idealized kernel's. -/
theorem frame_as (D) (hD : D = @Cert.KernelIdeal.defs Bits _ Cert.KernelIdeal.Gen.facts)
    (M) (hM : M = @Cert.KernelIdeal.main Bits _ Cert.KernelIdeal.Gen.facts)
    (m : (ℓ : Loc Cert.KernelIdeal.nD Cert.KernelIdeal.τ Cert.KernelIdeal.sig) → Buf (Elt Bits) ℓ)
    (ρ : Dev Cert.KernelIdeal.nD → PrngReg) :
    θ_run D (onTc (τ := Cert.KernelIdeal.τ) M) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by
  subst hD hM
  exact Cert.KernelIdeal.Run.frame (F := Bits) m ρ

/-- The kernel's frame at float bit patterns. -/
theorem frame_kernel : Cert.quiescent_Kernel (hKernel := Cert.Kernel.Gen.facts) := fun m ρ _ =>
  frame_as _ table_eq _ main_eq m ρ

end Cert.Same

end
-- ==== Proof.Math.lean ====
/-
  The mathematics of one output element, over the extended reals: the kernel's spelling of a decoded box coordinate
  (by the hyperbolic tangent, with the stride folded into the constants) against the reference's (by the logistic
  function), and the float constants both spell.
-/
module

public import Idealize.ShloMosaic.PureOps.Ideal

@[expose] public section

noncomputable section

namespace Cert.Decode

open Idealize.ShloMosaic

/-! ## The constants -/

/-- One half, one, the cell scale 1.05 and the cell shift 0.025, each as the f32 constant both programs spell. -/
def half : EReal := Ideal.ofBits .f32 0x3F000000#32
def one : EReal := Ideal.ofBits .f32 0x3F800000#32
def c105 : EReal := Ideal.ofBits .f32 0x3F866666#32
def c025 : EReal := Ideal.ofBits .f32 0x3CCCCCCD#32

/-- The real number nearest 1.05 in f32, -/
def r105 : ℝ := 8808038 / 2 ^ 23
/-- and the one nearest 0.025. -/
def r025 : ℝ := 13421773 / 2 ^ 29

theorem half_eq : half = ((1 / 2 : ℝ) : EReal) := by
  simp [half, Ideal.ofBits, Ideal.ieee, -EReal.coe_mul]; norm_num
theorem one_eq : one = ((1 : ℝ) : EReal) := by
  simp [one, Ideal.ofBits, Ideal.ieee, -EReal.coe_mul]; norm_num
theorem c105_eq : c105 = (r105 : EReal) := by
  simp [c105, r105, Ideal.ofBits, Ideal.ieee, -EReal.coe_mul]; norm_num
theorem c025_eq : c025 = (r025 : EReal) := by
  simp [c025, r025, Ideal.ofBits, Ideal.ieee, -EReal.coe_mul]; norm_num

/-- The stride of each scale, and half the stride times 1.05: the latter is EXACT in f32, the stride being a power
    of two. -/
theorem stride0_eq : Ideal.ofBits .f32 0x41000000#32 = ((8 : ℝ) : EReal) := by
  simp [Ideal.ofBits, Ideal.ieee, -EReal.coe_mul]; norm_num
theorem stride1_eq : Ideal.ofBits .f32 0x41800000#32 = ((16 : ℝ) : EReal) := by
  simp [Ideal.ofBits, Ideal.ieee, -EReal.coe_mul]; norm_num
theorem stride2_eq : Ideal.ofBits .f32 0x42000000#32 = ((32 : ℝ) : EReal) := by
  simp [Ideal.ofBits, Ideal.ieee, -EReal.coe_mul]; norm_num
theorem hm0_eq : Ideal.ofBits .f32 0x40866666#32 = ((8 / 2 * r105 : ℝ) : EReal) := by
  simp [r105, Ideal.ofBits, Ideal.ieee, -EReal.coe_mul]; norm_num
theorem hm1_eq : Ideal.ofBits .f32 0x41066666#32 = ((16 / 2 * r105 : ℝ) : EReal) := by
  simp [r105, Ideal.ofBits, Ideal.ieee, -EReal.coe_mul]; norm_num
theorem hm2_eq : Ideal.ofBits .f32 0x41866666#32 = ((32 / 2 * r105 : ℝ) : EReal) := by
  simp [r105, Ideal.ofBits, Ideal.ieee, -EReal.coe_mul]; norm_num

/-! ## The two spellings of an element -/

/-- The logistic function as the reference spells it. -/
def logi (t : EReal) : EReal := Ideal.div one (one + Ideal.exp (-t))

/-- The kernel's table entry for grid coordinate `q`: `(q − 0.025)·stride`, plus the half-stride constant. -/
def entry (stride hm q : EReal) : EReal := (q - c025) * stride + hm

/-- Channel `c` of a decoded box, as the kernel computes it from the feature `t` and the table entry `g`. -/
def kcell (hm aw ah : EReal) (c : ℕ) (t g : EReal) : EReal :=
  if c < 2 then Ideal.tanh (t * half) * hm + g
  else if c < 3 then Ideal.exp t * aw
  else if c < 4 then Ideal.exp t * ah
  else Ideal.tanh (t * half) * half + half

/-- Channel `c` of a decoded box, as the reference computes it from the feature `t` and the grid coordinate `q`. -/
def rcell (stride aw ah : EReal) (c : ℕ) (t q : EReal) : EReal :=
  if c < 2 then (logi t * c105 - c025 + q) * stride
  else if c < 3 then Ideal.exp t * aw
  else if c < 4 then Ideal.exp t * ah
  else logi t

/-- The logistic function of a real is one half plus half the hyperbolic tangent of half the argument. -/
theorem logistic_real (r : ℝ) : 1 / (1 + Real.exp (-r)) = 1 / 2 + Real.tanh (r * (1 / 2)) * (1 / 2) := by
  have h : Real.exp (-r) = Real.exp (-(r * (1 / 2))) * Real.exp (-(r * (1 / 2))) := by
    rw [← Real.exp_add]; congr 1; ring
  have h2 : Real.exp (r * (1 / 2)) = (Real.exp (-(r * (1 / 2))))⁻¹ := by rw [Real.exp_neg, inv_inv]
  rw [Real.tanh_eq_sinh_div_cosh, Real.sinh_eq, Real.cosh_eq, h, h2]
  have hu := Real.exp_pos (-(r * (1 / 2)))
  generalize Real.exp (-(r * (1 / 2))) = u at hu
  have h1 : (1 + u * u) ≠ 0 := by positivity
  have h3 : (u⁻¹ + u) ≠ 0 := by positivity
  field_simp
  ring

/-- At every extended real the kernel's tangent is a real, and the reference's logistic is one half plus half of it. -/
theorem logi_tanh (t : EReal) :
    ∃ τ : ℝ, Ideal.tanh (t * half) = (τ : EReal) ∧ logi t = ((1 / 2 + τ * (1 / 2) : ℝ) : EReal) := by
  have hs : logi t = Ideal.div 1 (1 + Ideal.exp (-t)) := by rw [logi, one_eq, EReal.coe_one]
  rw [half_eq, hs]
  induction t with
  | bot =>
    refine ⟨-1, ?_, ?_⟩
    · rw [EReal.bot_mul_coe_of_pos (by norm_num), Ideal.tanh_bot]; norm_num
    · have h := Ideal.logistic_bot
      rw [Ideal.logistic] at h
      rw [h]; norm_num
  | top =>
    refine ⟨1, ?_, ?_⟩
    · rw [EReal.top_mul_coe_of_pos (by norm_num), Ideal.tanh_top]; norm_num
    · have h := Ideal.logistic_top
      rw [Ideal.logistic] at h
      rw [h]; norm_num
  | coe r =>
    refine ⟨Real.tanh (r * (1 / 2)), ?_, ?_⟩
    · rw [← EReal.coe_mul, Ideal.tanh_coe]
    · rw [← logistic_real r, ← EReal.coe_neg, Ideal.exp_coe, ← EReal.coe_one, ← EReal.coe_add,
        Ideal.div_coe (by positivity), ← EReal.coe_mul, one_mul]

/-- The two spellings agree at every channel, feature and real grid coordinate: `½·stride·1.05·tanh(t/2)` plus the
    table's entry is `(1.05·σ(t) − 0.025 + q)·stride`, and the confidences and exponentials agree. -/
theorem cell_eq (s q : ℝ) (aw ah : EReal) (c : ℕ) (t : EReal) :
    kcell ((s / 2 * r105 : ℝ) : EReal) aw ah c t (entry (s : EReal) ((s / 2 * r105 : ℝ) : EReal) (q : EReal))
      = rcell (s : EReal) aw ah c t (q : EReal) := by
  obtain ⟨τ, h1, h2⟩ := logi_tanh t
  unfold kcell rcell entry
  rw [h1, h2, c105_eq, c025_eq, half_eq]
  split
  · rw [← EReal.coe_mul, ← EReal.coe_sub, ← EReal.coe_mul, ← EReal.coe_add, ← EReal.coe_add, ← EReal.coe_mul,
      ← EReal.coe_sub, ← EReal.coe_add, ← EReal.coe_mul]
    congr 1; ring
  · split
    · rfl
    · split
      · rfl
      · rw [← EReal.coe_mul, ← EReal.coe_add]; congr 1; ring

end Cert.Decode

end
-- ==== Proof.Reference.lean ====
/-
  The reference's result read at an index: one scale's decoding as one function of the feature map's side (`decode`),
  that the reference's result is the three of them joined, and its elements, each the mathematics' `rcell`.
-/
module

public import proofs.«01_k».proof.Proof.Gen.ReferenceIdeal.Run
public import proofs.«01_k».proof.Proof.Math
public import Idealize.ShloMosaic.Lib.ValueLayout
public import Idealize.ShloMosaic.Lib.IdealHost
public import Idealize.ShloMosaic.Lib.Pipeline.Value

@[expose] public section

noncomputable section

namespace Cert.Decode

open Cert.ReferenceIdeal Cert.ReferenceIdeal.Gen
open Idealize.ShloMosaic Idealize.ShloMosaic.TcCoe Idealize.ShloMosaic.ValueIdx

variable {F : FTy → Type} [FloatOps F]

/-- A batch of grids of side `s`, three anchors to a cell and `k` channels to an anchor. -/
abbrev Cells (s k : ℕ) : Shape := ⟨5, ![16, s, s, 3, k]⟩

/-- The side conditions of a scale of side `s` with `m` boxes. -/
structure Grid (s m : ℕ) : Prop where
  boxes : m = 3 * s * s
  enter : (⟨4, ![16, 255, s, s]⟩ : Shape).ShapeCasts ⟨5, ![16, 3, 85, s, s]⟩
  flip : (⟨5, ![16, 3, 85, s, s]⟩ : Shape).Transposes [0, 3, 4, 1, 2] (Cells s 85)
  xy : (Cells s 85).Slices ![0, 0, 0, 0, 0] (Cells s 2)
  wh : (Cells s 85).Slices ![0, 0, 0, 0, 2] (Cells s 2)
  conf : (Cells s 85).Slices ![0, 0, 0, 0, 4] (Cells s 81)
  two : (⟨0, ![]⟩ : Shape).BroadcastsInDim (Cells s 2) ![]
  rest : (⟨0, ![]⟩ : Shape).BroadcastsInDim (Cells s 81) ![]
  colC : (⟨1, ![s]⟩ : Shape).ShapeCasts ⟨5, ![1, 1, s, 1, 1]⟩
  rowC : (⟨1, ![s]⟩ : Shape).ShapeCasts ⟨5, ![1, s, 1, 1, 1]⟩
  colB : (⟨5, ![1, 1, s, 1, 1]⟩ : Shape).BroadcastsInDim (Cells s 1) ![0, 1, 2, 3, 4]
  rowB : (⟨5, ![1, s, 1, 1, 1]⟩ : Shape).BroadcastsInDim (Cells s 1) ![0, 1, 2, 3, 4]
  pair : Shape.Concatenates [Cells s 1, Cells s 1] (Cells s 2) 4
  ancC : (⟨2, ![3, 2]⟩ : Shape).ShapeCasts ⟨5, ![1, 1, 1, 3, 2]⟩
  ancB : (⟨5, ![1, 1, 1, 3, 2]⟩ : Shape).BroadcastsInDim (Cells s 2) ![0, 1, 2, 3, 4]
  join : Shape.Concatenates [Cells s 2, Cells s 2, Cells s 81] (Cells s 85) 4
  leave : (Cells s 85).ShapeCasts ⟨3, ![16, m, 85]⟩

/-- They hold at the three scales. -/
theorem grid0 : Grid 76 17328 :=
  ⟨rfl, shapeCasts_S16x255x76x76_S16x3x85x76x76, transposes_S16x3x85x76x76_S16x76x76x3x85_0_3_4_1_2, slices_S16x76x76x3x85_S16x76x76x3x2_0_0_0_0_0,
    slices_S16x76x76x3x85_S16x76x76x3x2_0_0_0_0_2, slices_S16x76x76x3x85_S16x76x76x3x81_0_0_0_0_4, bcast_S_S16x76x76x3x2, bcast_S_S16x76x76x3x81,
    shapeCasts_S76_S1x1x76x1x1, shapeCasts_S76_S1x76x1x1x1, bcast_S1x1x76x1x1_S16x76x76x3x1_0_1_2_3_4, bcast_S1x76x1x1x1_S16x76x76x3x1_0_1_2_3_4,
    concatenates_S16x76x76x3x1_S16x76x76x3x1_S16x76x76x3x2_d4, shapeCasts_S3x2_S1x1x1x3x2, bcast_S1x1x1x3x2_S16x76x76x3x2_0_1_2_3_4,
    concatenates_S16x76x76x3x2_S16x76x76x3x2_S16x76x76x3x81_S16x76x76x3x85_d4, shapeCasts_S16x76x76x3x85_S16x17328x85⟩
theorem grid1 : Grid 38 4332 :=
  ⟨rfl, shapeCasts_S16x255x38x38_S16x3x85x38x38, transposes_S16x3x85x38x38_S16x38x38x3x85_0_3_4_1_2, slices_S16x38x38x3x85_S16x38x38x3x2_0_0_0_0_0,
    slices_S16x38x38x3x85_S16x38x38x3x2_0_0_0_0_2, slices_S16x38x38x3x85_S16x38x38x3x81_0_0_0_0_4, bcast_S_S16x38x38x3x2, bcast_S_S16x38x38x3x81,
    shapeCasts_S38_S1x1x38x1x1, shapeCasts_S38_S1x38x1x1x1, bcast_S1x1x38x1x1_S16x38x38x3x1_0_1_2_3_4, bcast_S1x38x1x1x1_S16x38x38x3x1_0_1_2_3_4,
    concatenates_S16x38x38x3x1_S16x38x38x3x1_S16x38x38x3x2_d4, shapeCasts_S3x2_S1x1x1x3x2, bcast_S1x1x1x3x2_S16x38x38x3x2_0_1_2_3_4,
    concatenates_S16x38x38x3x2_S16x38x38x3x2_S16x38x38x3x81_S16x38x38x3x85_d4, shapeCasts_S16x38x38x3x85_S16x4332x85⟩
theorem grid2 : Grid 19 1083 :=
  ⟨rfl, shapeCasts_S16x255x19x19_S16x3x85x19x19, transposes_S16x3x85x19x19_S16x19x19x3x85_0_3_4_1_2, slices_S16x19x19x3x85_S16x19x19x3x2_0_0_0_0_0,
    slices_S16x19x19x3x85_S16x19x19x3x2_0_0_0_0_2, slices_S16x19x19x3x85_S16x19x19x3x81_0_0_0_0_4, bcast_S_S16x19x19x3x2, bcast_S_S16x19x19x3x81,
    shapeCasts_S19_S1x1x19x1x1, shapeCasts_S19_S1x19x1x1x1, bcast_S1x1x19x1x1_S16x19x19x3x1_0_1_2_3_4, bcast_S1x19x1x1x1_S16x19x19x3x1_0_1_2_3_4,
    concatenates_S16x19x19x3x1_S16x19x19x3x1_S16x19x19x3x2_d4, shapeCasts_S3x2_S1x1x1x3x2, bcast_S1x1x1x3x2_S16x19x19x3x2_0_1_2_3_4,
    concatenates_S16x19x19x3x2_S16x19x19x3x2_S16x19x19x3x81_S16x19x19x3x85_d4, shapeCasts_S16x19x19x3x85_S16x1083x85⟩

/-- The feature map with the channels last. -/
def feat {s m : ℕ} (W : Grid s m) (x : Vec F ⟨4, ![16, 255, s, s]⟩ .f32) : FVec F (Cells s 85) .f32 :=
  transpose (Cells s 85) [0, 3, 4, 1, 2] (shapeCast ⟨5, ![16, 3, 85, s, s]⟩ x W.enter) W.flip

/-- The logistic function of a slice, as the reference spells it. -/
def sigm {T : Shape} (hB : (⟨0, ![]⟩ : Shape).BroadcastsInDim T ![]) (y : FVec F T .f32) : FVec F T .f32 :=
  Host.divf (broadcastInDim T ![] hB (constant ⟨0, ![]⟩ .f32 0x3F800000#32))
    (addf (broadcastInDim T ![] hB (constant ⟨0, ![]⟩ .f32 0x3F800000#32)) (Host.exp (Host.negf y)))

/-- Each cell's column and row. -/
def coords {s m : ℕ} (W : Grid s m) : FVec F (Cells s 2) .f32 :=
  concatenate (Cells s 2) 4
    [⟨Cells s 1, broadcastInDim (Cells s 1) ![0, 1, 2, 3, 4] W.colB
        (shapeCast ⟨5, ![1, 1, s, 1, 1]⟩ (sitofp .f32 (iotaInDim ⟨1, ![s]⟩ 32 0)) W.colC)⟩,
      ⟨Cells s 1, broadcastInDim (Cells s 1) ![0, 1, 2, 3, 4] W.rowB
        (shapeCast ⟨5, ![1, s, 1, 1, 1]⟩ (sitofp .f32 (iotaInDim ⟨1, ![s]⟩ 32 0)) W.rowC)⟩] W.pair

/-- A scale's centres, -/
def centres {s m : ℕ} (W : Grid s m) (stride : BitVec 32) (x : Vec F ⟨4, ![16, 255, s, s]⟩ .f32) : FVec F (Cells s 2) .f32 :=
  mulf (addf (subf (mulf (sigm W.two (extractStridedSlice (Cells s 2) ![0, 0, 0, 0, 0] (feat W x) W.xy))
        (broadcastInDim (Cells s 2) ![] W.two (constant ⟨0, ![]⟩ .f32 0x3F866666#32)))
      (broadcastInDim (Cells s 2) ![] W.two (constant ⟨0, ![]⟩ .f32 0x3CCCCCCD#32))) (coords W))
    (broadcastInDim (Cells s 2) ![] W.two (constant ⟨0, ![]⟩ .f32 stride))
/-- its sizes, -/
def sizes {s m : ℕ} (W : Grid s m) (anc : Vec F ⟨2, ![3, 2]⟩ .f32) (x : Vec F ⟨4, ![16, 255, s, s]⟩ .f32) : FVec F (Cells s 2) .f32 :=
  mulf (Host.exp (extractStridedSlice (Cells s 2) ![0, 0, 0, 0, 2] (feat W x) W.wh))
    (broadcastInDim (Cells s 2) ![0, 1, 2, 3, 4] W.ancB (shapeCast ⟨5, ![1, 1, 1, 3, 2]⟩ anc W.ancC))
/-- its confidences, -/
def confs {s m : ℕ} (W : Grid s m) (x : Vec F ⟨4, ![16, 255, s, s]⟩ .f32) : FVec F (Cells s 81) .f32 :=
  sigm W.rest (extractStridedSlice (Cells s 81) ![0, 0, 0, 0, 4] (feat W x) W.conf)

/-- and the scale's boxes, a row each. -/
def decode {s m : ℕ} (W : Grid s m) (stride : BitVec 32) (anc : Vec F ⟨2, ![3, 2]⟩ .f32) (x : Vec F ⟨4, ![16, 255, s, s]⟩ .f32) :
    FVec F ⟨3, ![16, m, 85]⟩ .f32 :=
  shapeCast ⟨3, ![16, m, 85]⟩
    (concatenate (Cells s 85) 4 [⟨Cells s 2, centres W stride x⟩, ⟨Cells s 2, sizes W anc x⟩, ⟨Cells s 81, confs W x⟩] W.join) W.leave

/-- The anchors' sizes at each scale, as the reference's table. -/
def anchors0 : Vec F ⟨2, ![3, 2]⟩ .f32 := fun i => FloatOps.ofBits .f32 (lit0 (S3x2.rowMajor i))
def anchors1 : Vec F ⟨2, ![3, 2]⟩ .f32 := fun i => FloatOps.ofBits .f32 (lit1 (S3x2.rowMajor i))
def anchors2 : Vec F ⟨2, ![3, 2]⟩ .f32 := fun i => FloatOps.ofBits .f32 (lit2 (S3x2.rowMajor i))

/-- The reference's result as a function of its arguments: the three scales' boxes joined. -/
def result (x0 : Vec F S16x255x76x76 .f32) (x1 : Vec F S16x255x38x38 .f32) (x2 : Vec F S16x255x19x19 .f32) :
    FVec F S16x22743x85 .f32 :=
  concatenate S16x22743x85 1 [⟨S16x17328x85, decode grid0 0x41000000#32 anchors0 x0⟩,
    ⟨S16x4332x85, decode grid1 0x41800000#32 anchors1 x1⟩, ⟨S16x1083x85, decode grid2 0x42000000#32 anchors2 x2⟩]
    concatenates_S16x17328x85_S16x4332x85_S16x1083x85_S16x22743x85_d1

set_option maxRecDepth 8192 in
/-- The run's result is it. -/
theorem res_eq (m : (ℓ : Loc nD τ sig) → Buf (Elt F) ℓ) (c : Dev nD) :
    Value.res_main_v108 m c = result (m ((c.tc : Thread nD τ).loc main_arg0)) (m ((c.tc : Thread nD τ).loc main_arg1))
      (m ((c.tc : Thread nD τ).loc main_arg2)) := rfl

end Cert.Decode

end
-- ==== Proof.Tile.lean ====
/-
  One anchor's tile: what the kernel's body computes from the 85 × n features of one anchor at one scale and the
  scale's table, as one function of the tile's width and the anchor's constants (`tile`); that each of the nine stored
  values is it; and its elements, each the mathematics' `kcell`.
-/
module

public import proofs.«01_k».proof.Proof.Gen.KernelIdeal.Skeleton
public import proofs.«01_k».proof.Proof.Math
public import Idealize.ShloMosaic.Lib.ValueLayout
public import Idealize.ShloMosaic.Lib.Pipeline.Value

@[expose] public section

noncomputable section

namespace Cert.Decode

open Cert.KernelIdeal Cert.KernelIdeal.Gen
open Idealize.ShloMosaic Idealize.ShloMosaic.ValueIdx

variable {F : FTy → Type} [FloatOps F]

/-- The side conditions of a tile of width `n`. -/
structure Width (n : ℕ) : Prop where
  enter : (⟨4, ![1, 1, 85, n]⟩ : Shape).ShapeCasts ⟨2, ![85, n]⟩
  same : (⟨2, ![2, n]⟩ : Shape).ShapeCasts ⟨2, ![2, n]⟩
  leave : (⟨2, ![n, 85]⟩ : Shape).ShapeCasts ⟨3, ![1, n, 85]⟩
  xy : (⟨2, ![85, n]⟩ : Shape).Slices ![0, 0] ⟨2, ![2, n]⟩
  w : (⟨2, ![85, n]⟩ : Shape).Slices ![2, 0] ⟨2, ![1, n]⟩
  h : (⟨2, ![85, n]⟩ : Shape).Slices ![3, 0] ⟨2, ![1, n]⟩
  conf : (⟨2, ![85, n]⟩ : Shape).Slices ![4, 0] ⟨2, ![81, n]⟩
  join : Shape.Concatenates [⟨2, ![2, n]⟩, ⟨2, ![1, n]⟩, ⟨2, ![1, n]⟩, ⟨2, ![81, n]⟩] (⟨2, ![85, n]⟩ : Shape) 0
  flip : (⟨2, ![85, n]⟩ : Shape).Transposes [1, 0] ⟨2, ![n, 85]⟩

/-- They hold at the three scales' widths. -/
theorem width0 : Width 5776 :=
  ⟨shapeCasts_S1x1x85x5776_S85x5776, shapeCasts_S2x5776_S2x5776, shapeCasts_S5776x85_S1x5776x85, slices_S85x5776_o0_0_S2x5776,
    slices_S85x5776_o2_0_S1x5776, slices_S85x5776_o3_0_S1x5776, slices_S85x5776_o4_0_S81x5776,
    concatenates_S2x5776_S1x5776_S1x5776_S81x5776_S85x5776_d0, transposes_S85x5776_p1_0_S5776x85⟩
theorem width1 : Width 1444 :=
  ⟨shapeCasts_S1x1x85x1444_S85x1444, shapeCasts_S2x1444_S2x1444, shapeCasts_S1444x85_S1x1444x85, slices_S85x1444_o0_0_S2x1444,
    slices_S85x1444_o2_0_S1x1444, slices_S85x1444_o3_0_S1x1444, slices_S85x1444_o4_0_S81x1444,
    concatenates_S2x1444_S1x1444_S1x1444_S81x1444_S85x1444_d0, transposes_S85x1444_p1_0_S1444x85⟩
theorem width2 : Width 361 :=
  ⟨shapeCasts_S1x1x85x361_S85x361, shapeCasts_S2x361_S2x361, shapeCasts_S361x85_S1x361x85, slices_S85x361_o0_0_S2x361,
    slices_S85x361_o2_0_S1x361, slices_S85x361_o3_0_S1x361, slices_S85x361_o4_0_S81x361,
    concatenates_S2x361_S1x361_S1x361_S81x361_S85x361_d0, transposes_S85x361_p1_0_S361x85⟩

/-- A tile: channels 0 and 1 from the tangent and the table `g`, 2 and 3 from the exponential and the anchor's sizes,
    the rest from the tangent; then transposed to a row per position. -/
def tile {n : ℕ} (W : Width n) (hm aw ah : BitVec 32) (x : Vec F ⟨4, ![1, 1, 85, n]⟩ .f32) (g : Vec F ⟨2, ![2, n]⟩ .f32) :
    FVec F ⟨3, ![1, n, 85]⟩ .f32 :=
  let v : FVec F ⟨2, ![85, n]⟩ .f32 := shapeCast ⟨2, ![85, n]⟩ x W.enter
  shapeCast ⟨3, ![1, n, 85]⟩ (transpose ⟨2, ![n, 85]⟩ [1, 0] (concatenate ⟨2, ![85, n]⟩ 0
    [⟨⟨2, ![2, n]⟩, addf (mulf (tanh (mulf (extractStridedSlice ⟨2, ![2, n]⟩ ![0, 0] v W.xy)
        (broadcast ⟨2, ![2, n]⟩ (Scalar.ofBits .f32 0x3F000000#32)))) (broadcast ⟨2, ![2, n]⟩ (Scalar.ofBits .f32 hm)))
        (shapeCast ⟨2, ![2, n]⟩ g W.same)⟩,
      ⟨⟨2, ![1, n]⟩, mulf (exp (extractStridedSlice ⟨2, ![1, n]⟩ ![2, 0] v W.w)) (broadcast ⟨2, ![1, n]⟩ (Scalar.ofBits .f32 aw))⟩,
      ⟨⟨2, ![1, n]⟩, mulf (exp (extractStridedSlice ⟨2, ![1, n]⟩ ![3, 0] v W.h)) (broadcast ⟨2, ![1, n]⟩ (Scalar.ofBits .f32 ah))⟩,
      ⟨⟨2, ![81, n]⟩, addf (mulf (tanh (mulf (extractStridedSlice ⟨2, ![81, n]⟩ ![4, 0] v W.conf)
        (broadcast ⟨2, ![81, n]⟩ (Scalar.ofBits .f32 0x3F000000#32)))) (broadcast ⟨2, ![81, n]⟩ (Scalar.ofBits .f32 0x3F000000#32)))
        (broadcast ⟨2, ![81, n]⟩ (Scalar.ofBits .f32 0x3F000000#32))⟩] W.join) W.flip) W.leave

/-! ## The nine stored values are tiles -/

theorem pay00 (x : Vec F S1x1x85x5776 .f32) (g : Vec F S2x5776 .f32) :
    k0_pay2 x g = tile width0 0x40866666#32 0x41E00000#32 0x41E00000#32 x g := rfl
theorem pay01 (x : Vec F S1x1x85x5776 .f32) (g : Vec F S2x5776 .f32) :
    k0_pay5 (k0_pay3 x) (k0_pay4 x) g = tile width0 0x40866666#32 0x42380000#32 0x42340000#32 x g := rfl
theorem pay02 (x : Vec F S1x1x85x5776 .f32) (g : Vec F S2x5776 .f32) :
    k0_pay10 (k0_pay6 x) (k0_pay7 x g) (k0_pay8 x) k0_pay9 = tile width0 0x40866666#32 0x42800000#32 0x42840000#32 x g := rfl
theorem pay10 (x : Vec F S1x1x85x1444 .f32) (g : Vec F S2x1444 .f32) :
    k0_pay16 (k0_pay12 x g) (k0_pay13 x) (k0_pay14 x) (k0_pay15 x) (Scalar.ofBits .f32 0x3F000000#32)
      = tile width1 0x41066666#32 0x42CC0000#32 0x42940000#32 x g := rfl
theorem pay11 (x : Vec F S1x1x85x1444 .f32) (g : Vec F S2x1444 .f32) :
    k0_pay17 x g = tile width1 0x41066666#32 0x429C0000#32 0x42E60000#32 x g := rfl
theorem pay12 (x : Vec F S1x1x85x1444 .f32) (g : Vec F S2x1444 .f32) :
    k0_pay18 x g = tile width1 0x41066666#32 0x43040000#32 0x42E20000#32 x g := rfl
theorem pay20 (x : Vec F S1x1x85x361 .f32) (g : Vec F S2x361 .f32) :
    k0_pay21 (k0_pay19 x) (k0_pay20 x) g = tile width2 0x41866666#32 0x43150000#32 0x43230000#32 x g := rfl
theorem pay21 (x : Vec F S1x1x85x361 .f32) (g : Vec F S2x361 .f32) :
    k0_pay26 (k0_pay22 x) (k0_pay23 x g) (k0_pay24 x) k0_pay25
      = tile width2 0x41866666#32 0x432E0000#32 0x43860000#32 x g := rfl
theorem pay22 (x : Vec F S1x1x85x361 .f32) (g : Vec F S2x361 .f32) :
    k0_pay1 (k0_pay28 x g) (k0_pay29 x) (k0_pay30 x) (k0_pay31 x) (Scalar.ofBits .f32 0x3F000000#32)
      = tile width2 0x41866666#32 0x43808000#32 0x43300000#32 x g := rfl

/-! ## A tile's elements -/

/-- The features of one anchor as a matrix: channel `c` at position `p`. -/
theorem enter_apply {n : ℕ} (W : Width n) (x : Vec F ⟨4, ![1, 1, 85, n]⟩ .f32) (c : Fin 85) (p : Fin n) :
    shapeCast ⟨2, ![85, n]⟩ x W.enter (ix2 c p) = x (ix4 0 0 c p) :=
  shapeCast_apply x W.enter _ _ (by
    rw [Shape.rowMajor_val_four, Shape.rowMajor_val_two]
    show ((0 * 1 + 0) * 85 + c.val) * n + p.val = c.val * n + p.val
    simp)

/-- Row `c` of the four groups of rows joined: of the first group below 2, the second at 2, the third at 3, the last
    from 4 on. -/
theorem join_apply {n : ℕ} {α : Type} (y0 : (⟨2, ![2, n]⟩ : Shape).Idx → α) (y1 y2 : (⟨2, ![1, n]⟩ : Shape).Idx → α)
    (y3 : (⟨2, ![81, n]⟩ : Shape).Idx → α) (H) (c : Fin 85) (p : Fin n) :
    (∀ k : Fin 2, k.val = c.val → concatenate (⟨2, ![85, n]⟩ : Shape) 0 [⟨_, y0⟩, ⟨_, y1⟩, ⟨_, y2⟩, ⟨_, y3⟩] H (ix2 c p) = y0 (ix2 k p))
    ∧ (c.val = 2 → concatenate (⟨2, ![85, n]⟩ : Shape) 0 [⟨_, y0⟩, ⟨_, y1⟩, ⟨_, y2⟩, ⟨_, y3⟩] H (ix2 c p) = y1 (ix2 0 p))
    ∧ (c.val = 3 → concatenate (⟨2, ![85, n]⟩ : Shape) 0 [⟨_, y0⟩, ⟨_, y1⟩, ⟨_, y2⟩, ⟨_, y3⟩] H (ix2 c p) = y2 (ix2 0 p))
    ∧ (∀ k : Fin 81, 4 + k.val = c.val → concatenate (⟨2, ![85, n]⟩ : Shape) 0 [⟨_, y0⟩, ⟨_, y1⟩, ⟨_, y2⟩, ⟨_, y3⟩] H (ix2 c p) = y3 (ix2 k p)) := by
  have off : ∀ {m : ℕ} (k : Fin m) (b : Fin 2), b.cast rfl ≠ (0 : Fin 2) → (ix2 k p b).val = (ix2 c p (b.cast rfl)).val := by
    intro m k b hb
    match b with
    | ⟨0, _⟩ => exact absurd rfl hb
    | ⟨1, _⟩ => rfl
  refine ⟨fun k hk => ?_, fun hk => ?_, fun hk => ?_, fun k hk => ?_⟩
  · exact concatenate_apply_piece 0 _ H (ix2 c p) 0 (show 0 < 4 by decide) _ y0 rfl rfl 0 rfl (ix2 k p) (off k)
      (show 0 + k.val = c.val by omega)
  · exact concatenate_apply_piece 0 _ H (ix2 c p) 1 (show 1 < 4 by decide) _ y1 rfl rfl 2 rfl (ix2 0 p) (off 0)
      (show 2 + 0 = c.val by omega)
  · exact concatenate_apply_piece 0 _ H (ix2 c p) 2 (show 2 < 4 by decide) _ y2 rfl rfl 3 rfl (ix2 0 p) (off 0)
      (show 3 + 0 = c.val by omega)
  · exact concatenate_apply_piece 0 _ H (ix2 c p) 3 (show 3 < 4 by decide) _ y3 rfl rfl 4 rfl (ix2 k p) (off k)
      (show 4 + k.val = c.val by omega)

/-- The element of a tile at position `p` and channel `c` is the mathematics' cell of the feature and the table's entry
    there; the table is read at channels 0 and 1 only. -/
theorem tile_apply {n : ℕ} (W : Width n) (hm aw ah : BitVec 32) (x : Vec Ideal ⟨4, ![1, 1, 85, n]⟩ .f32)
    (g : Vec Ideal ⟨2, ![2, n]⟩ .f32) (p : Fin n) (c : Fin 85) (k : Fin 2) (hk : c.val < 2 → k.val = c.val) :
    tile W hm aw ah x g (ix3 0 p c)
      = kcell (Ideal.ofBits .f32 hm) (Ideal.ofBits .f32 aw) (Ideal.ofBits .f32 ah) c.val (x (ix4 0 0 c p)) (g (ix2 k p)) := by
  have slice : ∀ {k : ℕ} (o : ℕ) (h : (⟨2, ![85, n]⟩ : Shape).Slices ![o, 0] ⟨2, ![k, n]⟩) (j : Fin k) (hj : c.val = o + j.val),
      extractStridedSlice ⟨2, ![k, n]⟩ ![o, 0] (shapeCast ⟨2, ![85, n]⟩ x W.enter) h (ix2 j p) = x (ix4 0 0 c p) :=
    fun o h j hj => (extractStridedSlice_apply _ _ h _ (ix2 c p) fun a => by
      match a with
      | ⟨0, _⟩ => exact hj
      | ⟨1, _⟩ => exact (Nat.zero_add _).symm).trans (enter_apply W x c p)
  unfold tile
  dsimp only
  rw [shapeCast_ab_1ab_apply, transpose_ix2_apply]
  generalize hv : shapeCast ⟨2, ![85, n]⟩ x W.enter = v at slice ⊢
  have J := join_apply (α := EReal)
    (addf (mulf (tanh (mulf (extractStridedSlice ⟨2, ![2, n]⟩ ![0, 0] v W.xy)
      (broadcast ⟨2, ![2, n]⟩ (Scalar.ofBits (F := Ideal) .f32 0x3F000000#32)))) (broadcast ⟨2, ![2, n]⟩ (Scalar.ofBits .f32 hm)))
      (shapeCast ⟨2, ![2, n]⟩ g W.same))
    (mulf (exp (extractStridedSlice ⟨2, ![1, n]⟩ ![2, 0] v W.w)) (broadcast ⟨2, ![1, n]⟩ (Scalar.ofBits (F := Ideal) .f32 aw)))
    (mulf (exp (extractStridedSlice ⟨2, ![1, n]⟩ ![3, 0] v W.h)) (broadcast ⟨2, ![1, n]⟩ (Scalar.ofBits (F := Ideal) .f32 ah)))
    (addf (mulf (tanh (mulf (extractStridedSlice ⟨2, ![81, n]⟩ ![4, 0] v W.conf)
      (broadcast ⟨2, ![81, n]⟩ (Scalar.ofBits (F := Ideal) .f32 0x3F000000#32)))) (broadcast ⟨2, ![81, n]⟩ (Scalar.ofBits .f32 0x3F000000#32)))
      (broadcast ⟨2, ![81, n]⟩ (Scalar.ofBits .f32 0x3F000000#32))) W.join c p
  unfold kcell
  rcases Nat.lt_or_ge c.val 2 with h2 | h2
  · rw [if_pos h2]
    refine (J.1 k (hk h2)).trans ?_
    show Ideal.tanh (extractStridedSlice ⟨2, ![2, n]⟩ ![0, 0] v W.xy (ix2 k p) * half)
        * Ideal.ofBits .f32 hm + shapeCast ⟨2, ![2, n]⟩ g W.same (ix2 k p) = _
    rw [slice 0 W.xy k (by have := hk h2; omega), shapeCast_apply g W.same _ (ix2 k p) rfl]
  · rw [if_neg (by omega)]
    rcases Nat.lt_or_ge c.val 3 with h3 | h3
    · rw [if_pos h3]
      refine (J.2.1 (by omega)).trans ?_
      show Ideal.exp (extractStridedSlice ⟨2, ![1, n]⟩ ![2, 0] v W.w (ix2 (0 : Fin 1) p))
        * Ideal.ofBits .f32 aw = _
      rw [slice 2 W.w 0 (by show c.val = 2 + 0; omega)]
    · rw [if_neg (by omega)]
      rcases Nat.lt_or_ge c.val 4 with h4 | h4
      · rw [if_pos h4]
        refine (J.2.2.1 (by omega)).trans ?_
        show Ideal.exp (extractStridedSlice ⟨2, ![1, n]⟩ ![3, 0] v W.h (ix2 (0 : Fin 1) p))
          * Ideal.ofBits .f32 ah = _
        rw [slice 3 W.h 0 (by show c.val = 3 + 0; omega)]
      · rw [if_neg (by omega)]
        have hj : c.val - 4 < 81 := by have := c.isLt; omega
        refine (J.2.2.2 ⟨c.val - 4, hj⟩ (by show 4 + (c.val - 4) = c.val; omega)).trans ?_
        show Ideal.tanh (extractStridedSlice ⟨2, ![81, n]⟩ ![4, 0] v W.conf
          (ix2 (⟨c.val - 4, hj⟩ : Fin 81) p) * half) * half + half = _
        rw [slice 4 W.conf _ (by show c.val = 4 + (c.val - 4); omega)]

end Cert.Decode

end
-- ==== Proof.RefCells.lean ====
/-
  The elements of the reference's result: of one scale's decoding (`decode_apply`), and of the three joined
  (`result_apply`), each the mathematics' `rcell` of the feature, the anchor's sizes and the cell's coordinate.
-/
module

public import proofs.«01_k».proof.Proof.Reference

@[expose] public section

noncomputable section

namespace Cert.Decode

open Cert.ReferenceIdeal Cert.ReferenceIdeal.Gen
open Idealize.ShloMosaic Idealize.ShloMosaic.TcCoe Idealize.ShloMosaic.ValueIdx

/-- Channel `c` of anchor `a`, in a feature map's 255 channels. -/
abbrev chan (a : Fin 3) (c : Fin 85) : Fin 255 := ⟨85 * a.val + c.val, by omega⟩

/-- The coordinate that channel `c` of a cell takes: the column at channel 0, else the row. -/
def coord {s : ℕ} (c : ℕ) (h w : Fin s) : EReal := ((((if c = 0 then w.val else h.val) : ℕ) : ℝ) : EReal)

section
variable {s m : ℕ} (W : Grid s m) (x : Vec Ideal ⟨4, ![16, 255, s, s]⟩ .f32)

/-- Two arrays joined along the channels: the first channel is of the first, the second of the second. -/
theorem pair_apply {α : Type} (y0 y1 : (Cells s 1).Idx → α) (H) (b : Fin 16) (h w : Fin s) (a : Fin 3) :
    concatenate (Cells s 2) 4 [⟨Cells s 1, y0⟩, ⟨Cells s 1, y1⟩] H (ix5 b h w a (0 : Fin 2)) = y0 (ix5 b h w a (0 : Fin 1))
    ∧ concatenate (Cells s 2) 4 [⟨Cells s 1, y0⟩, ⟨Cells s 1, y1⟩] H (ix5 b h w a (1 : Fin 2)) = y1 (ix5 b h w a (0 : Fin 1)) := by
  have off : ∀ (j : Fin 2) (k : Fin 5), k.cast rfl ≠ (4 : Fin 5) → (ix5 b h w a (0 : Fin 1) k).val = (ix5 b h w a j (k.cast rfl)).val := by
    intro j k hk
    match k with
    | ⟨0, _⟩ => rfl
    | ⟨1, _⟩ => rfl
    | ⟨2, _⟩ => rfl
    | ⟨3, _⟩ => rfl
    | ⟨4, _⟩ => exact absurd rfl hk
  exact ⟨concatenate_apply_piece 4 _ H _ 0 (show 0 < 2 by decide) _ y0 rfl rfl 0 rfl _ (off 0) rfl,
    concatenate_apply_piece 4 _ H _ 1 (show 1 < 2 by decide) _ y1 rfl rfl 1 rfl _ (off 1) rfl⟩

/-- Three arrays of 2, 2 and 81 channels joined along the channels. -/
theorem join3_apply {α : Type} (y0 y1 : (Cells s 2).Idx → α) (y2 : (Cells s 81).Idx → α) (H) (b : Fin 16) (h w : Fin s) (a : Fin 3)
    (c : Fin 85) :
    (∀ j : Fin 2, 0 + j.val = c.val →
      concatenate (Cells s 85) 4 [⟨Cells s 2, y0⟩, ⟨Cells s 2, y1⟩, ⟨Cells s 81, y2⟩] H (ix5 b h w a c) = y0 (ix5 b h w a j))
    ∧ (∀ j : Fin 2, 2 + j.val = c.val →
      concatenate (Cells s 85) 4 [⟨Cells s 2, y0⟩, ⟨Cells s 2, y1⟩, ⟨Cells s 81, y2⟩] H (ix5 b h w a c) = y1 (ix5 b h w a j))
    ∧ (∀ j : Fin 81, 4 + j.val = c.val →
      concatenate (Cells s 85) 4 [⟨Cells s 2, y0⟩, ⟨Cells s 2, y1⟩, ⟨Cells s 81, y2⟩] H (ix5 b h w a c) = y2 (ix5 b h w a j)) := by
  have off : ∀ {n : ℕ} (j : Fin n) (k : Fin 5), k.cast rfl ≠ (4 : Fin 5) → (ix5 b h w a j k).val = (ix5 b h w a c (k.cast rfl)).val := by
    intro n j k hk
    match k with
    | ⟨0, _⟩ => rfl
    | ⟨1, _⟩ => rfl
    | ⟨2, _⟩ => rfl
    | ⟨3, _⟩ => rfl
    | ⟨4, _⟩ => exact absurd rfl hk
  exact ⟨fun j hj => concatenate_apply_piece 4 _ H _ 0 (show 0 < 3 by decide) _ y0 rfl rfl 0 rfl _ (off j) hj,
    fun j hj => concatenate_apply_piece 4 _ H _ 1 (show 1 < 3 by decide) _ y1 rfl rfl 2 rfl _ (off j) hj,
    fun j hj => concatenate_apply_piece 4 _ H _ 2 (show 2 < 3 by decide) _ y2 rfl rfl 4 rfl _ (off j) hj⟩

/-- The feature map, channels last. -/
theorem feat_apply (b : Fin 16) (h w : Fin s) (a : Fin 3) (c : Fin 85) :
    feat W x (ix5 b h w a c) = x (ix4 b (chan a c) h w) := by
  unfold feat
  refine (transpose_apply _ _ W.flip _ (ix5 b a c h w) fun k => ?_).trans ?_
  · match k with
    | ⟨0, _⟩ => rfl
    | ⟨1, _⟩ => rfl
    | ⟨2, _⟩ => rfl
    | ⟨3, _⟩ => rfl
    | ⟨4, _⟩ => rfl
  · refine shapeCast_apply x W.enter _ _ ?_
    rw [Shape.rowMajor_val_four, Shape.rowMajor_val_five]
    show ((b.val * 255 + (85 * a.val + c.val)) * s + h.val) * s + w.val = (((b.val * 3 + a.val) * 85 + c.val) * s + h.val) * s + w.val
    ring

/-- A slice of its channels. -/
theorem slice_apply {k : ℕ} (o : ℕ) (H : (Cells s 85).Slices ![0, 0, 0, 0, o] (Cells s k)) (b : Fin 16) (h w : Fin s) (a : Fin 3)
    (j : Fin k) (c : Fin 85) (hc : c.val = o + j.val) :
    extractStridedSlice (Cells s k) ![0, 0, 0, 0, o] (feat W x) H (ix5 b h w a j) = x (ix4 b (chan a c) h w) :=
  (extractStridedSlice_apply _ _ H _ (ix5 b h w a c) fun k => by
    match k with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact hc).trans (feat_apply W x b h w a c)

/-- The logistic function of an array, elementwise. -/
theorem sigm_apply {T : Shape} (hB : (⟨0, ![]⟩ : Shape).BroadcastsInDim T ![]) (y : FVec Ideal T .f32) (i : T.Idx) :
    sigm hB y i = logi (y i) := by
  show Ideal.div (broadcastInDim T ![] hB (constant (F := Ideal) ⟨0, ![]⟩ .f32 0x3F800000#32) i)
    (broadcastInDim T ![] hB (constant (F := Ideal) ⟨0, ![]⟩ .f32 0x3F800000#32) i + Ideal.exp (-(y i))) = _
  rw [broadcastInDim_scalar_apply]
  rfl

/-- A position below 2 ^ 31 as a float is itself. -/
theorem iota_apply (hs : s < 2 ^ 31) (p : Fin s) :
    (sitofp (F := Ideal) .f32 (iotaInDim ⟨1, ![s]⟩ 32 0) : FVec Ideal ⟨1, ![s]⟩ .f32) (ix1 p) = (((p.val : ℕ) : ℝ) : EReal) := by
  show (((BitVec.ofNat 32 p.val).toInt : ℝ) : EReal) = _
  have hp := p.isLt
  rw [BitVec.toInt_eq_toNat_of_lt (by rw [BitVec.toNat_ofNat]; omega), BitVec.toNat_ofNat, Nat.mod_eq_of_lt (by omega)]
  norm_cast

/-- A cell's coordinates: its column, then its row. -/
theorem coords_apply (hs : s < 2 ^ 31) (b : Fin 16) (h w : Fin s) (a : Fin 3) (j : Fin 2) :
    coords (F := Ideal) W (ix5 b h w a j) = coord j.val h w := by
  have hs1 : s = 1 → h.val = 0 ∧ w.val = 0 := fun e => ⟨by have := h.isLt; omega, by have := w.isLt; omega⟩
  unfold coords
  match j with
  | ⟨0, _⟩ =>
    refine (pair_apply _ _ W.pair b h w a).1.trans ?_
    refine (broadcastInDim_apply _ W.colB _ _ (ix5 (0 : Fin 1) (0 : Fin 1) w (0 : Fin 1) (0 : Fin 1)) fun k => ?_).trans ?_
    · match k with
      | ⟨0, _⟩ => rfl
      | ⟨1, _⟩ => rfl
      | ⟨2, _⟩ => show w.val = if s = 1 then 0 else w.val; split <;> simp_all
      | ⟨3, _⟩ => rfl
      | ⟨4, _⟩ => rfl
    · refine (shapeCast_apply _ W.colC _ (ix1 w) ?_).trans (iota_apply hs w)
      rw [Shape.rowMajor_val_one, Shape.rowMajor_val_five]
      show w.val = (((0 * 1 + 0) * s + w.val) * 1 + 0) * 1 + 0
      simp
  | ⟨1, _⟩ =>
    refine (pair_apply _ _ W.pair b h w a).2.trans ?_
    refine (broadcastInDim_apply _ W.rowB _ _ (ix5 (0 : Fin 1) h (0 : Fin 1) (0 : Fin 1) (0 : Fin 1)) fun k => ?_).trans ?_
    · match k with
      | ⟨0, _⟩ => rfl
      | ⟨1, _⟩ => show h.val = if s = 1 then 0 else h.val; split <;> simp_all
      | ⟨2, _⟩ => rfl
      | ⟨3, _⟩ => rfl
      | ⟨4, _⟩ => rfl
    · refine (shapeCast_apply _ W.rowC _ (ix1 h) ?_).trans (iota_apply hs h)
      rw [Shape.rowMajor_val_one, Shape.rowMajor_val_five]
      show h.val = (((0 * s + h.val) * 1 + 0) * 1 + 0) * 1 + 0
      simp

/-- The anchors' sizes, the same at every cell. -/
theorem anc_apply (anc : Vec Ideal ⟨2, ![3, 2]⟩ .f32) (b : Fin 16) (h w : Fin s) (a : Fin 3) (j : Fin 2) :
    broadcastInDim (Cells s 2) ![0, 1, 2, 3, 4] W.ancB (shapeCast ⟨5, ![1, 1, 1, 3, 2]⟩ anc W.ancC) (ix5 b h w a j) = anc (ix2 a j) := by
  refine (broadcastInDim_apply _ W.ancB _ _ (ix5 (0 : Fin 1) (0 : Fin 1) (0 : Fin 1) a j) fun k => ?_).trans ?_
  · match k with
    | ⟨0, _⟩ => rfl
    | ⟨1, _⟩ => rfl
    | ⟨2, _⟩ => rfl
    | ⟨3, _⟩ => rfl
    | ⟨4, _⟩ => rfl
  · refine shapeCast_apply anc W.ancC _ _ ?_
    rw [Shape.rowMajor_val_two, Shape.rowMajor_val_five]
    show a.val * 2 + j.val = (((0 * 1 + 0) * 1 + 0) * 3 + a.val) * 2 + j.val
    simp

/-- A box of one scale: row `3·(h·s + w) + a`, channel `c`. -/
theorem decode_apply (hs : s < 2 ^ 31) (stride : BitVec 32) (anc : Vec Ideal ⟨2, ![3, 2]⟩ .f32) (b : Fin 16) (h w : Fin s) (a : Fin 3)
    (c : Fin 85) (r : Fin m) (hr : r.val = 3 * (h.val * s + w.val) + a.val) :
    decode W stride anc x (ix3 b r c)
      = rcell (Ideal.ofBits .f32 stride) (anc (ix2 a 0)) (anc (ix2 a 1)) c.val (x (ix4 b (chan a c) h w)) (coord c.val h w) := by
  unfold decode
  refine (shapeCast_apply _ W.leave _ (ix5 b h w a c) ?_).trans ?_
  · rw [Shape.rowMajor_val_three, Shape.rowMajor_val_five]
    show (((b.val * s + h.val) * s + w.val) * 3 + a.val) * 85 + c.val = (b.val * m + r.val) * 85 + c.val
    rw [hr, W.boxes]; ring
  have J := join3_apply (centres W stride x) (sizes W anc x) (confs W x) W.join b h w a c
  unfold rcell
  rcases Nat.lt_or_ge c.val 2 with h2 | h2
  · rw [if_pos h2]
    refine (J.1 ⟨c.val, h2⟩ (show 0 + c.val = c.val by omega)).trans ?_
    show (sigm W.two (extractStridedSlice (Cells s 2) ![0, 0, 0, 0, 0] (feat W x) W.xy) (ix5 b h w a (⟨c.val, h2⟩ : Fin 2))
        * broadcastInDim (Cells s 2) ![] W.two (constant (F := Ideal) ⟨0, ![]⟩ .f32 0x3F866666#32) (ix5 b h w a (⟨c.val, h2⟩ : Fin 2))
        - broadcastInDim (Cells s 2) ![] W.two (constant (F := Ideal) ⟨0, ![]⟩ .f32 0x3CCCCCCD#32) (ix5 b h w a (⟨c.val, h2⟩ : Fin 2))
        + coords (F := Ideal) W (ix5 b h w a (⟨c.val, h2⟩ : Fin 2)))
        * broadcastInDim (Cells s 2) ![] W.two (constant (F := Ideal) ⟨0, ![]⟩ .f32 stride) (ix5 b h w a (⟨c.val, h2⟩ : Fin 2)) = _
    rw [sigm_apply, slice_apply W x 0 W.xy b h w a ⟨c.val, h2⟩ c (Nat.zero_add _).symm, coords_apply W hs,
      broadcastInDim_scalar_apply, broadcastInDim_scalar_apply, broadcastInDim_scalar_apply]
    rfl
  · rw [if_neg (by omega)]
    rcases Nat.lt_or_ge c.val 4 with h4 | h4
    · have hj : c.val - 2 < 2 := by omega
      have e : concatenate (Cells s 85) 4 [⟨Cells s 2, centres W stride x⟩, ⟨Cells s 2, sizes W anc x⟩, ⟨Cells s 81, confs W x⟩] W.join
          (ix5 b h w a c) = Ideal.exp (x (ix4 b (chan a c) h w)) * anc (ix2 a (⟨c.val - 2, hj⟩ : Fin 2)) := by
        refine (J.2.1 ⟨c.val - 2, hj⟩ (show 2 + (c.val - 2) = c.val by omega)).trans ?_
        show Ideal.exp (extractStridedSlice (Cells s 2) ![0, 0, 0, 0, 2] (feat W x) W.wh (ix5 b h w a (⟨c.val - 2, hj⟩ : Fin 2)))
          * broadcastInDim (Cells s 2) ![0, 1, 2, 3, 4] W.ancB (shapeCast ⟨5, ![1, 1, 1, 3, 2]⟩ anc W.ancC)
            (ix5 b h w a (⟨c.val - 2, hj⟩ : Fin 2)) = _
        rw [slice_apply W x 2 W.wh b h w a ⟨c.val - 2, hj⟩ c (show c.val = 2 + (c.val - 2) by omega), anc_apply W]
      rw [e]
      rcases Nat.lt_or_ge c.val 3 with h3 | h3
      · rw [if_pos h3, show (⟨c.val - 2, hj⟩ : Fin 2) = 0 from Fin.ext (show c.val - 2 = 0 by omega)]
      · rw [if_neg (by omega), if_pos h4, show (⟨c.val - 2, hj⟩ : Fin 2) = 1 from Fin.ext (show c.val - 2 = 1 by omega)]
    · rw [if_neg (by omega), if_neg (by omega)]
      have hj : c.val - 4 < 81 := by have := c.isLt; omega
      refine (J.2.2 ⟨c.val - 4, hj⟩ (show 4 + (c.val - 4) = c.val by omega)).trans ?_
      unfold confs
      rw [sigm_apply, slice_apply W x 4 W.conf b h w a ⟨c.val - 4, hj⟩ c (show c.val = 4 + (c.val - 4) by omega)]

end

/-! ## The three scales joined -/

section
variable (x0 : Vec Ideal S16x255x76x76 .f32) (x1 : Vec Ideal S16x255x38x38 .f32) (x2 : Vec Ideal S16x255x19x19 .f32)

/-- Three arrays of 17328, 4332 and 1083 rows joined along the rows. -/
theorem rows_apply {α : Type} (y0 : S16x17328x85.Idx → α) (y1 : S16x4332x85.Idx → α) (y2 : S16x1083x85.Idx → α) (H) (b : Fin 16)
    (R : Fin 22743) (c : Fin 85) :
    (∀ r : Fin 17328, 0 + r.val = R.val →
      concatenate S16x22743x85 1 [⟨S16x17328x85, y0⟩, ⟨S16x4332x85, y1⟩, ⟨S16x1083x85, y2⟩] H (ix3 b R c) = y0 (ix3 b r c))
    ∧ (∀ r : Fin 4332, 17328 + r.val = R.val →
      concatenate S16x22743x85 1 [⟨S16x17328x85, y0⟩, ⟨S16x4332x85, y1⟩, ⟨S16x1083x85, y2⟩] H (ix3 b R c) = y1 (ix3 b r c))
    ∧ (∀ r : Fin 1083, 21660 + r.val = R.val →
      concatenate S16x22743x85 1 [⟨S16x17328x85, y0⟩, ⟨S16x4332x85, y1⟩, ⟨S16x1083x85, y2⟩] H (ix3 b R c) = y2 (ix3 b r c)) := by
  have off : ∀ {n : ℕ} (r : Fin n) (k : Fin 3), k.cast rfl ≠ (1 : Fin 3) → (ix3 b r c k).val = (ix3 b R c (k.cast rfl)).val := by
    intro n r k hk
    match k with
    | ⟨0, _⟩ => rfl
    | ⟨1, _⟩ => exact absurd rfl hk
    | ⟨2, _⟩ => rfl
  exact ⟨fun r hr => concatenate_apply_piece 1 _ H _ 0 (show 0 < 3 by decide) _ y0 rfl rfl 0 rfl _ (off r) hr,
    fun r hr => concatenate_apply_piece 1 _ H _ 1 (show 1 < 3 by decide) _ y1 rfl rfl 17328 rfl _ (off r) hr,
    fun r hr => concatenate_apply_piece 1 _ H _ 2 (show 2 < 3 by decide) _ y2 rfl rfl 21660 rfl _ (off r) hr⟩

/-- A box is of the first scale below row 17328, of the second below row 21660, and of the third from there. -/
theorem result_apply0 (b : Fin 16) (r : Fin 17328) (R : Fin 22743) (hR : 0 + r.val = R.val) (c : Fin 85) :
    result x0 x1 x2 (ix3 b R c) = decode grid0 0x41000000#32 anchors0 x0 (ix3 b r c) := (rows_apply _ _ _ _ b R c).1 r hR
theorem result_apply1 (b : Fin 16) (r : Fin 4332) (R : Fin 22743) (hR : 17328 + r.val = R.val) (c : Fin 85) :
    result x0 x1 x2 (ix3 b R c) = decode grid1 0x41800000#32 anchors1 x1 (ix3 b r c) := (rows_apply _ _ _ _ b R c).2.1 r hR
theorem result_apply2 (b : Fin 16) (r : Fin 1083) (R : Fin 22743) (hR : 21660 + r.val = R.val) (c : Fin 85) :
    result x0 x1 x2 (ix3 b R c) = decode grid2 0x42000000#32 anchors2 x2 (ix3 b r c) := (rows_apply _ _ _ _ b R c).2.2 r hR

end

end Cert.Decode

end
-- ==== Proof.Block.lean ====
/-
  The block the kernel's body leaves, from an image's feature maps and the grids' tables: the reference's result for
  that image (`outBlock_eq`). Each of the nine stored tiles is (`piece_eq`, one lemma for all of them), and they cover
  the block.
-/
module

public import proofs.«01_k».proof.Proof.Body
public import proofs.«01_k».proof.Proof.Tile
public import proofs.«01_k».proof.Proof.RefCells
public import Idealize.ShloMosaic.Lib.Pipeline.ValueKit

@[expose] public section

set_option maxRecDepth 16384

noncomputable section

namespace Cert.Decode

open Cert.KernelIdeal Cert.KernelIdeal.Gen Cert.KernelIdeal.Run
open Idealize.ShloMosaic hiding ix1 ix2 ix3 ix4 ix5 eq_ix3
open Idealize.ShloMosaic.ValueIdx

/-! ## One piece -/

/-- One anchor's tile of a block `x` of a map `X` merged by positions, over a table that holds the grid's offsets, is
    the reference's decoding of the map: at scale `s`, image `b`, anchor `a`, position `p`, channel `c`. -/
theorem tile_eq {s n k : ℕ} (W : Width n) (G : Grid s k) (hs : s < 2 ^ 31) (hn : n = s * s)
    (S : ℝ) (stride hm aw ah : BitVec 32)
    (hS : Ideal.ofBits .f32 stride = ((S : ℝ) : EReal)) (hH : Ideal.ofBits .f32 hm = ((S / 2 * r105 : ℝ) : EReal))
    (X : Vec Ideal ⟨4, ![16, 255, s, s]⟩ .f32) (anc : Vec Ideal ⟨2, ![3, 2]⟩ .f32)
    (x : Vec Ideal ⟨4, ![1, 1, 85, n]⟩ .f32) (g : Vec Ideal ⟨2, ![2, n]⟩ .f32) (b : Fin 16) (a : Fin 3)
    (hx : ∀ (c : Fin 85) (p : Fin n) (h w : Fin s), p.val = h.val * s + w.val → x (ix4 0 0 c p) = X (ix4 b (chan a c) h w))
    (hg : ∀ (j : Fin 2) (p : Fin n), g (ix2 j p) = entry (Ideal.ofBits .f32 stride) (Ideal.ofBits .f32 hm)
      (((if j.val = 0 then p.val % s else p.val / s : ℕ) : ℝ) : EReal))
    (haw : anc (ix2 a 0) = Ideal.ofBits .f32 aw) (hah : anc (ix2 a 1) = Ideal.ofBits .f32 ah)
    (p : Fin n) (c : Fin 85) (r : Fin k) (hr : r.val = 3 * p.val + a.val) :
    tile W hm aw ah x g (ix3 0 p c) = decode G stride anc X (ix3 b r c) := by
  subst hn
  have hp := p.isLt
  have hs0 : 0 < s := Nat.pos_of_ne_zero fun e => by subst e; omega
  have hw : p.val % s < s := Nat.mod_lt _ hs0
  have hh : p.val / s < s := Nat.div_lt_of_lt_mul hp
  have hpe : p.val = p.val / s * s + p.val % s := (Nat.div_add_mod' _ _).symm
  rw [decode_apply G X hs stride anc b ⟨p.val / s, hh⟩ ⟨p.val % s, hw⟩ a c r
      (by show r.val = 3 * (p.val / s * s + p.val % s) + a.val; rw [← hpe, hr]),
    tile_apply W hm aw ah x g p c (if c.val = 0 then 0 else 1) (fun h => by
      by_cases hc : c.val = 0
      · rw [if_pos hc]; exact hc.symm
      · rw [if_neg hc]; show 1 = c.val; omega),
    hx c p ⟨p.val / s, hh⟩ ⟨p.val % s, hw⟩ hpe, hg, haw, hah, hS, hH, cell_eq]
  unfold coord
  congr 4
  by_cases hc : c.val = 0 <;> simp [hc]

/-- Anchor `a` of a block, loaded: the block there. -/
theorem load_map {n : ℕ} (x : Vec Ideal ⟨4, ![1, 3, 85, n]⟩ .f32) (o : ℕ) (a : Fin 3) (ho : o = a.val) (inb) (c : Fin 85) (p : Fin n) :
    View.ld x (Rect.unit (s := ⟨4, ![1, 3, 85, n]⟩) ![0, o, 0, 0] ![1, 1, 85, n] inb) (ix4 0 0 c p) = x (ix4 0 a c p) :=
  View.ld_unit_apply_of x _ _ inb _ (ix4 0 a c p) fun e => by
    match e with
    | ⟨0, _⟩ => rfl
    | ⟨1, _⟩ => show a.val = o + 0; omega
    | ⟨2, _⟩ => show c.val = 0 + c.val; omega
    | ⟨3, _⟩ => show p.val = 0 + p.val; omega

/-- A table, loaded whole. -/
theorem load_table {n : ℕ} (g : Vec Ideal ⟨2, ![2, n]⟩ .f32) (inb) (j : Fin 2) (p : Fin n) :
    View.ld g (Rect.unit (s := ⟨2, ![2, n]⟩) ![0, 0] ![2, n] inb) (ix2 j p) = g (ix2 j p) :=
  View.ld_unit_apply_of g _ _ inb _ (ix2 j p) fun e => by
    match e with
    | ⟨0, _⟩ => show j.val = 0 + j.val; omega
    | ⟨1, _⟩ => show p.val = 0 + p.val; omega

/-- A stored tile at an index of its box, against a target `T` that on the scale's rows, from `off`, is the reference's
    decoding. -/
theorem piece_eq {s n k : ℕ} (W : Width n) (G : Grid s k) (hs : s < 2 ^ 31) (hn : n = s * s)
    (S : ℝ) (stride hm : BitVec 32)
    (hS : Ideal.ofBits .f32 stride = ((S : ℝ) : EReal)) (hH : Ideal.ofBits .f32 hm = ((S / 2 * r105 : ℝ) : EReal))
    (X : Vec Ideal ⟨4, ![16, 255, s, s]⟩ .f32) (anc : Vec Ideal ⟨2, ![3, 2]⟩ .f32)
    (x : Vec Ideal ⟨4, ![1, 3, 85, n]⟩ .f32) (g : Vec Ideal ⟨2, ![2, n]⟩ .f32) (b : Fin 16)
    (hx : ∀ (a : Fin 3) (c : Fin 85) (p : Fin n) (h w : Fin s), p.val = h.val * s + w.val →
      x (ix4 0 a c p) = X (ix4 b (chan a c) h w))
    (hg : ∀ (j : Fin 2) (p : Fin n), g (ix2 j p) = entry (Ideal.ofBits .f32 stride) (Ideal.ofBits .f32 hm)
      (((if j.val = 0 then p.val % s else p.val / s : ℕ) : ℝ) : EReal))
    (T : Vec Ideal S16x22743x85 .f32) (off : ℕ)
    (hT : ∀ (r : Fin k) (R : Fin 22743), off + r.val = R.val → ∀ c, T (ix3 b R c) = decode G stride anc X (ix3 b r c))
    (a : Fin 3) (aw ah : BitVec 32) (haw : anc (ix2 a 0) = Ideal.ofBits .f32 aw) (hah : anc (ix2 a 1) = Ideal.ofBits .f32 ah)
    (o₁ o₂ : ℕ) (ho₁ : o₁ = a.val) (ho₂ : o₂ = off + a.val) (inb₁ inb₂ inb₃ sp)
    (y : (⟨3, ![1, n, 85]⟩ : Shape).Idx) :
    tile W hm aw ah (View.ld x (Rect.unit (s := ⟨4, ![1, 3, 85, n]⟩) ![0, o₁, 0, 0] ![1, 1, 85, n] inb₁))
        (View.ld g (Rect.unit (s := ⟨2, ![2, n]⟩) ![0, 0] ![2, n] inb₂)) y
      = T (ix3 b ((⟨(⟨![0, o₂, 0], ![1, n, 85], ![1, 3, 1], inb₃⟩ : LoadRect S1x22743x85), sp⟩ : Rect S1x22743x85).emb y 1)
          ((⟨(⟨![0, o₂, 0], ![1, n, 85], ![1, 3, 1], inb₃⟩ : LoadRect S1x22743x85), sp⟩ : Rect S1x22743x85).emb y 2)) := by
  subst hn
  have hk : k = 3 * s * s := G.boxes
  obtain ⟨y0, p, c, rfl⟩ : ∃ (y0 : Fin 1) (p : Fin (s * s)) (c : Fin 85), y = ix3 y0 p c := ⟨y 0, y 1, y 2, eq_ix3 y⟩
  obtain rfl : y0 = 0 := Subsingleton.elim _ _
  have hp := p.isLt
  have ha := a.isLt
  have hr : 3 * p.val + a.val < k := by rw [hk, Nat.mul_assoc]; omega
  rw [tile_eq W G hs rfl S stride hm aw ah hS hH X anc _ _ b a
    (fun c p h w e => (load_map x o₁ a ho₁ inb₁ c p).trans (hx a c p h w e))
    (fun j p => (load_table g inb₂ j p).trans (hg j p)) haw hah p c ⟨3 * p.val + a.val, hr⟩ rfl]
  have h1 : off + (3 * p.val + a.val)
      = ((⟨(⟨![0, o₂, 0], ![1, s * s, 85], ![1, 3, 1], inb₃⟩ : LoadRect S1x22743x85), sp⟩ : Rect S1x22743x85).emb (ix3 0 p c) 1 : ℕ) := by
    show off + (3 * p.val + a.val) = o₂ + 3 * p.val
    omega
  have h2 : (⟨(⟨![0, o₂, 0], ![1, s * s, 85], ![1, 3, 1], inb₃⟩ : LoadRect S1x22743x85), sp⟩ : Rect S1x22743x85).emb (ix3 0 p c) 2 = c :=
    Fin.ext (show 0 + 1 * c.val = c.val by omega)
  rw [h2]
  exact (hT _ _ h1 c).symm

/-! ## The block -/

/-- A block's map is image `b` of `X`, its positions merged and its channels split by anchor. -/
def MapOf {s n : ℕ} (X : Vec Ideal ⟨4, ![16, 255, s, s]⟩ .f32) (b : Fin 16) (x : Vec Ideal ⟨4, ![1, 3, 85, n]⟩ .f32) : Prop :=
  ∀ (a : Fin 3) (c : Fin 85) (p : Fin n) (h w : Fin s), p.val = h.val * s + w.val → x (ix4 0 a c p) = X (ix4 b (chan a c) h w)

/-- A table holds the offsets of an `s`-wide grid. -/
def TableFor {n : ℕ} (s : ℕ) (stride hm : BitVec 32) (g : Vec Ideal ⟨2, ![2, n]⟩ .f32) : Prop :=
  ∀ (j : Fin 2) (p : Fin n), g (ix2 j p) = entry (Ideal.ofBits .f32 stride) (Ideal.ofBits .f32 hm)
    (((if j.val = 0 then p.val % s else p.val / s : ℕ) : ℝ) : EReal)

/-- What the body leaves is the reference's result for the image. -/
theorem outBlock_eq (X0 : Vec Ideal ⟨4, ![16, 255, 76, 76]⟩ .f32) (X1 : Vec Ideal ⟨4, ![16, 255, 38, 38]⟩ .f32)
    (X2 : Vec Ideal ⟨4, ![16, 255, 19, 19]⟩ .f32) (b : Fin 16)
    (x0 : Vec Ideal S1x3x85x5776 .f32) (x1 : Vec Ideal S1x3x85x1444 .f32) (x2 : Vec Ideal S1x3x85x361 .f32)
    (g0 : Vec Ideal S2x5776 .f32) (g1 : Vec Ideal S2x1444 .f32) (g2 : Vec Ideal S2x361 .f32)
    (hx0 : MapOf X0 b x0) (hx1 : MapOf X1 b x1) (hx2 : MapOf X2 b x2)
    (hg0 : TableFor 76 0x41000000#32 0x40866666#32 g0) (hg1 : TableFor 38 0x41800000#32 0x41066666#32 g1)
    (hg2 : TableFor 19 0x42000000#32 0x41866666#32 g2) (y : S1x22743x85.Idx) :
    outBlock x0 x1 x2 g0 g1 g2 y = result X0 X1 X2 (ix3 b (y 1) (y 2)) := by
  have P0 := piece_eq width0 grid0 (by decide) rfl 8 0x41000000#32 0x40866666#32 stride0_eq hm0_eq
    X0 anchors0 x0 g0 b hx0 hg0 (result X0 X1 X2) 0
    fun r R h c => result_apply0 X0 X1 X2 b r R h c
  have P1 := piece_eq width1 grid1 (by decide) rfl 16 0x41800000#32 0x41066666#32 stride1_eq hm1_eq
    X1 anchors1 x1 g1 b hx1 hg1 (result X0 X1 X2) 17328
    fun r R h c => result_apply1 X0 X1 X2 b r R h c
  have P2 := piece_eq width2 grid2 (by decide) rfl 32 0x42000000#32 0x41866666#32 stride2_eq hm2_eq
    X2 anchors2 x2 g2 b hx2 hg2 (result X0 X1 X2) 21660
    fun r R h c => result_apply2 X0 X1 X2 b r R h c
  unfold outBlock
  rw [pay00, pay01, pay02, pay10, pay11, pay12, pay20, pay21, pay22]
  refine View.canon_apply_of_pieces (Val := Elt Ideal) (fun y => result X0 X1 X2 (ix3 b (y 1) (y 2))) _ ?_ y (cover _ _ _ _ _ _ _ _ _ y)
  simp only [List.forall_mem_cons, List.not_mem_nil, false_implies, implies_true, and_true]
  exact ⟨P2 2 _ _ rfl rfl _ _ rfl rfl _ _ _ _, P2 1 _ _ rfl rfl _ _ rfl rfl _ _ _ _, P2 0 _ _ rfl rfl _ _ rfl rfl _ _ _ _,
    P1 2 _ _ rfl rfl _ _ rfl rfl _ _ _ _, P1 1 _ _ rfl rfl _ _ rfl rfl _ _ _ _, P1 0 _ _ rfl rfl _ _ rfl rfl _ _ _ _,
    P0 2 _ _ rfl rfl _ _ rfl rfl _ _ _ _, P0 1 _ _ rfl rfl _ _ rfl rfl _ _ _ _, P0 0 _ _ rfl rfl _ _ rfl rfl _ _ _ _⟩

end Cert.Decode

end
-- ==== Proof.Tables.lean ====
/-
  What the region before the kernel's call leaves: the feature maps with their two position axes merged and their
  channel axis split by anchor, and the three tables of grid offsets, each at an index.
-/
module

public import proofs.«01_k».proof.Proof.Gen.KernelIdeal.Frame
public import proofs.«01_k».proof.Proof.Math
public import proofs.«01_k».proof.Proof.RefCells
public import Idealize.ShloMosaic.Lib.StableHlo.Run
public import Idealize.ShloMosaic.Lib.ValueLayout
public import Idealize.ShloMosaic.Lib.IdealHost
public import Idealize.ShloMosaic.Lib.Affine
public import Idealize.ShloMosaic.Lib.Pipeline.Value

@[expose] public section

noncomputable section

namespace Cert.Decode

open Cert.KernelIdeal Cert.KernelIdeal.Gen
open Idealize.ShloMosaic Idealize.ShloMosaic.ValueIdx Idealize.ShloMosaic.StableHlo

/-! ## A table of grid offsets -/

/-- The quotient of two words that fit in 31 bits, the divisor positive. -/
theorem toNat_quot (x : BitVec 32) (k : ℕ) (hx : 2 * x.toNat < 2 ^ 32) (hk : 0 < k) (hk' : 2 * k < 2 ^ 32) :
    (IntOp.divsi .host x (BitVec.ofNat 32 k)).toNat = x.toNat / k := by
  have hkn : (BitVec.ofNat 32 k).toNat = k := by rw [BitVec.toNat_ofNat]; omega
  have hpos : ((BitVec.ofNat 32 k).toInt) = k := by rw [BitVec.toInt_eq_toNat_of_lt (by omega), hkn]
  unfold IntOp.divsi
  rw [if_neg (IntOp.not_corner_of_pos (by rw [hpos]; omega))]
  have h1 : x.msb = false := by rw [BitVec.msb_eq_false_iff_two_mul_lt]; omega
  have h2 : (BitVec.ofNat 32 k).msb = false := by rw [BitVec.msb_eq_false_iff_two_mul_lt]; omega
  rw [BitVec.sdiv_eq, h1, h2]
  simp only [BitVec.toNat_udiv, hkn, BitVec.udiv_eq]

/-- A word below 2³¹ as a number. -/
theorem sitofp_word (x : BitVec 32) (q : ℕ) (h : x.toNat = q) (hq : 2 * q < 2 ^ 32) :
    (FloatOps.sitofp .f32 x : Ideal .f32) = ((q : ℝ) : EReal) := by
  show (((x.toInt : ℤ) : ℝ) : EReal) = _
  rw [BitVec.toInt_eq_toNat_of_lt (by omega), h]; simp

/-- A table's row, before it is given its leading axis: the coordinate less the centre offset, times the stride, plus
    half the scale's width. -/
def row {n : ℕ} (B : (⟨0, ![]⟩ : Shape).BroadcastsInDim ⟨1, ![n]⟩ ![]) (stride hm : BitVec 32) (q : IVec ⟨1, ![n]⟩ 32) :
    FVec Ideal ⟨1, ![n]⟩ .f32 :=
  addf (mulf (subf (sitofp .f32 q) (broadcastInDim ⟨1, ![n]⟩ ![] B (constant ⟨0, ![]⟩ .f32 0x3CCCCCCD#32)))
    (broadcastInDim ⟨1, ![n]⟩ ![] B (constant ⟨0, ![]⟩ .f32 stride))) (broadcastInDim ⟨1, ![n]⟩ ![] B (constant ⟨0, ![]⟩ .f32 hm))

theorem row_apply {n : ℕ} (B : (⟨0, ![]⟩ : Shape).BroadcastsInDim ⟨1, ![n]⟩ ![]) (stride hm : BitVec 32)
    (q : IVec ⟨1, ![n]⟩ 32) (p : Fin n) (k : ℕ) (hq : (q (ix1 p)).toNat = k) (hk : 2 * k < 2 ^ 32) :
    row B stride hm q (ix1 p) = entry (Ideal.ofBits .f32 stride) (Ideal.ofBits .f32 hm) ((k : ℝ) : EReal) := by
  unfold row entry
  rw [addf_apply, mulf_apply, subf_apply]
  rw [← sitofp_word _ _ hq hk]
  rfl

/-- The side conditions of a table of `n` entries. -/
structure TableOf (n : ℕ) : Prop where
  spread : (⟨0, ![]⟩ : Shape).BroadcastsInDim ⟨1, ![n]⟩ ![]
  lift : (⟨1, ![n]⟩ : Shape).BroadcastsInDim ⟨2, ![1, n]⟩ ![1]
  join : Shape.Concatenates [⟨2, ![1, n]⟩, ⟨2, ![1, n]⟩] (⟨2, ![2, n]⟩ : Shape) 0

/-- The table: the column's row over the line's row. -/
def table {n : ℕ} (T : TableOf n) (s stride hm : BitVec 32) : FVec Ideal ⟨2, ![2, n]⟩ .f32 :=
  let i : IVec ⟨1, ![n]⟩ 32 := iotaInDim ⟨1, ![n]⟩ 32 0
  let d : IVec ⟨1, ![n]⟩ 32 := broadcastInDim ⟨1, ![n]⟩ ![] T.spread (constantI ⟨0, ![]⟩ 32 s)
  concatenate ⟨2, ![2, n]⟩ 0
    [⟨⟨2, ![1, n]⟩, broadcastInDim ⟨2, ![1, n]⟩ ![1] T.lift (row T.spread stride hm (Host.remsi i d))⟩,
     ⟨⟨2, ![1, n]⟩, broadcastInDim ⟨2, ![1, n]⟩ ![1] T.lift (row T.spread stride hm (Host.divsi i d))⟩] T.join

/-- Two rows joined: the first at index 0, the second at index 1. -/
theorem stack_apply {n : ℕ} (y0 y1 : FVec Ideal ⟨2, ![1, n]⟩ .f32) (H) (k : Fin 2) (p : Fin n) :
    concatenate ⟨2, ![2, n]⟩ 0 [⟨⟨2, ![1, n]⟩, y0⟩, ⟨⟨2, ![1, n]⟩, y1⟩] H (ix2 k p)
      = if k.val = 0 then y0 (ix2 0 p) else y1 (ix2 0 p) := by
  have off : ∀ (j : Fin 2) (e : Fin 2), e.cast rfl ≠ (0 : Fin 2) → (ix2 (0 : Fin 1) p e).val = (ix2 j p (e.cast rfl)).val := by
    intro j e he
    match e with
    | ⟨0, _⟩ => exact absurd rfl he
    | ⟨1, _⟩ => rfl
  match k with
  | ⟨0, _⟩ => exact concatenate_apply_piece 0 _ H _ 0 (show 0 < 2 by decide) _ y0 rfl rfl 0 rfl _ (off 0) rfl
  | ⟨1, _⟩ => exact concatenate_apply_piece 0 _ H _ 1 (show 1 < 2 by decide) _ y1 rfl rfl 1 rfl _ (off 1) rfl

/-- A row given a leading axis. -/
theorem lift_apply {n : ℕ} (L : (⟨1, ![n]⟩ : Shape).BroadcastsInDim ⟨2, ![1, n]⟩ ![1]) (v : FVec Ideal ⟨1, ![n]⟩ .f32) (p : Fin n) :
    broadcastInDim ⟨2, ![1, n]⟩ ![1] L v (ix2 0 p) = v (ix1 p) := by
  refine broadcastInDim_apply _ L _ _ (ix1 p) fun a => ?_
  match a with
  | ⟨0, _⟩ =>
    show p.val = if n = 1 then 0 else p.val
    split
    · have := p.isLt; omega
    · rfl

/-- A table's entry, at a position `p` of an `s`-wide grid. -/
theorem table_apply {n : ℕ} (T : TableOf n) (s : ℕ) (hs : 0 < s) (hs' : 2 * s < 2 ^ 32) (hn : 2 * n < 2 ^ 32)
    (stride hm : BitVec 32) (k : Fin 2) (p : Fin n) :
    table T (BitVec.ofNat 32 s) stride hm (ix2 k p)
      = entry (Ideal.ofBits .f32 stride) (Ideal.ofBits .f32 hm)
          (((if k.val = 0 then p.val % s else p.val / s : ℕ) : ℝ) : EReal) := by
  have hp := p.isLt
  have hi : (iotaInDim ⟨1, ![n]⟩ 32 0 (ix1 p) : BitVec 32).toNat = p.val := by
    show (BitVec.ofNat 32 p.val).toNat = _
    rw [BitVec.toNat_ofNat]; omega
  unfold table
  rw [stack_apply, lift_apply, lift_apply]
  have hr := row_apply T.spread stride hm (Host.remsi (iotaInDim ⟨1, ![n]⟩ 32 0)
    (broadcastInDim ⟨1, ![n]⟩ ![] T.spread (constantI ⟨0, ![]⟩ 32 (BitVec.ofNat 32 s)))) p (p.val % s)
    ((IntOp.toNat_remsi .host (by rw [hi]; omega) s hs hs').trans (by rw [hi]))
    (by have := Nat.mod_le p.val s; omega)
  have hd := row_apply T.spread stride hm (Host.divsi (iotaInDim ⟨1, ![n]⟩ 32 0)
    (broadcastInDim ⟨1, ![n]⟩ ![] T.spread (constantI ⟨0, ![]⟩ 32 (BitVec.ofNat 32 s)))) p (p.val / s)
    ((toNat_quot _ s (by rw [hi]; omega) hs hs').trans (by rw [hi]))
    (by have := Nat.div_le_self p.val s; omega)
  split
  · exact hr
  · exact hd

theorem tableOf0 : TableOf 5776 := ⟨bcast_S_S5776, bcast_S5776_S1x5776_1, concatenates_S1x5776_S1x5776_S2x5776_d0⟩
theorem tableOf1 : TableOf 1444 := ⟨bcast_S_S1444, bcast_S1444_S1x1444_1, concatenates_S1x1444_S1x1444_S2x1444_d0⟩
theorem tableOf2 : TableOf 361 := ⟨bcast_S_S361, bcast_S361_S1x361_1, concatenates_S1x361_S1x361_S2x361_d0⟩

/-! ## A feature map, reshaped -/

/-- A feature map's element after its channels are split by anchor and its positions merged. -/
theorem merged_apply {s n : ℕ} (R : (⟨4, ![16, 255, s, s]⟩ : Shape).ShapeCasts ⟨4, ![16, 3, 85, n]⟩) (hn : n = s * s)
    (x : FVec Ideal ⟨4, ![16, 255, s, s]⟩ .f32) (b : Fin 16) (a : Fin 3) (c : Fin 85) (p : Fin n)
    (h w : Fin s) (hp : p.val = h.val * s + w.val) :
    shapeCast ⟨4, ![16, 3, 85, n]⟩ x R (ix4 b a c p) = x (ix4 b (chan a c) h w) := by
  subst hn
  refine shapeCast_apply x R _ _ ?_
  rw [Shape.rowMajor_val_four, Shape.rowMajor_val_four]
  show ((b.val * 255 + (85 * a.val + c.val)) * s + h.val) * s + w.val = ((b.val * 3 + a.val) * 85 + c.val) * (s * s) + p.val
  rw [hp]; ring

/-! ## The region's results -/

variable (m : (ℓ : Loc nD τ sig) → Buf (Elt Ideal) ℓ) (c : Dev nD)

theorem V_map0 : V m c main_v0 = shapeCast S16x3x85x5776 (m (Thread.loc c.tc main_arg0)) shapeCasts_S16x255x76x76_S16x3x85x5776 := by
  dsimp only [V, hostOps0]; after_results; rfl
theorem V_map1 : V m c main_v1 = shapeCast S16x3x85x1444 (m (Thread.loc c.tc main_arg1)) shapeCasts_S16x255x38x38_S16x3x85x1444 := by
  dsimp only [V, hostOps0]; after_results; rfl
theorem V_map2 : V m c main_v2 = shapeCast S16x3x85x361 (m (Thread.loc c.tc main_arg2)) shapeCasts_S16x255x19x19_S16x3x85x361 := by
  dsimp only [V, hostOps0]; after_results; rfl
theorem V_table0 : V m c main_v24 = table tableOf0 76#32 0x41000000#32 0x40866666#32 := by
  dsimp only [V, hostOps0]; after_results; rfl
theorem V_table1 : V m c main_v46 = table tableOf1 38#32 0x41800000#32 0x41066666#32 := by
  dsimp only [V, hostOps0]; after_results; rfl
theorem V_table2 : V m c main_v68 = table tableOf2 19#32 0x42000000#32 0x41866666#32 := by
  dsimp only [V, hostOps0]; after_results; rfl

end Cert.Decode

end
-- ==== Proof.Array.lean ====
/-
  The kernel's result array after the run: every grid point's input blocks are its image's feature maps and the
  grids' tables, its output block is the reference's result for the image, and the sixteen blocks cover the array.
-/
module

public import proofs.«01_k».proof.Proof.Block
public import proofs.«01_k».proof.Proof.Tables
public import Idealize.ShloMosaic.Lib.Pipeline.ValueKit

@[expose] public section

set_option maxRecDepth 16384

noncomputable section

namespace Cert.Decode

open Cert.KernelIdeal Cert.KernelIdeal.Gen Cert.KernelIdeal.Run
open Idealize.ShloMosaic hiding ix1 ix2 ix3 ix4 ix5 eq_ix3
open Idealize.ShloMosaic.ValueIdx
open Idealize.ShloMosaic.TcCoe
open Idealize.ShloMosaic.Pipeline (Dat)

variable (m : (ℓ : Loc nD τ sig) → Buf (Elt Ideal) ℓ) (c : Dev nD)

/-! ## The blocks' places -/

/-- Every window's block index at every grid point: the point on the leading axis, or the whole array. -/
theorem index_0 : ∀ t : Fin cfg0.N, win0_0.index t = ![t.val, 0, 0, 0] := (by decide +kernel : ∀ t : Fin Cert.KernelIdeal.grid0.N, _)
theorem index_1 : ∀ t : Fin cfg0.N, win0_1.index t = ![t.val, 0, 0, 0] := (by decide +kernel : ∀ t : Fin Cert.KernelIdeal.grid0.N, _)
theorem index_2 : ∀ t : Fin cfg0.N, win0_2.index t = ![t.val, 0, 0, 0] := (by decide +kernel : ∀ t : Fin Cert.KernelIdeal.grid0.N, _)
theorem index_3 : ∀ t : Fin cfg0.N, win0_3.index t = ![0, 0] := (by decide +kernel : ∀ t : Fin Cert.KernelIdeal.grid0.N, _)
theorem index_4 : ∀ t : Fin cfg0.N, win0_4.index t = ![0, 0] := (by decide +kernel : ∀ t : Fin Cert.KernelIdeal.grid0.N, _)
theorem index_5 : ∀ t : Fin cfg0.N, win0_5.index t = ![0, 0] := (by decide +kernel : ∀ t : Fin Cert.KernelIdeal.grid0.N, _)
theorem index_6 : ∀ t : Fin cfg0.N, win0_6.index t = ![t.val, 0, 0] := (by decide +kernel : ∀ t : Fin Cert.KernelIdeal.grid0.N, _)

/-- The grid point as an image. -/
def image (t : Fin cfg0.N) : Fin 16 := ⟨t.val, (by decide +kernel : ∀ t : Fin Cert.KernelIdeal.grid0.N, t.val < 16) t⟩

/-! ## The input blocks -/

/-- A feature map's block is its image's. -/
theorem map_0 (t : Fin cfg0.N) : MapOf (m (Thread.loc c.tc main_arg0)) (image t) (iblk m c 0 t) := by
  intro a ch p h w e
  have hv : iblk m c 0 t (ix4 0 a ch p) = V m c main_v0 (ix4 (image t) a ch p) := by
    blk_simp [iblk]
    congr 1
    blk_ext [index_0, image]
  rw [hv, V_map0]
  exact merged_apply shapeCasts_S16x255x76x76_S16x3x85x5776 rfl _ (image t) a ch p h w e
theorem map_1 (t : Fin cfg0.N) : MapOf (m (Thread.loc c.tc main_arg1)) (image t) (iblk m c 1 t) := by
  intro a ch p h w e
  have hv : iblk m c 1 t (ix4 0 a ch p) = V m c main_v1 (ix4 (image t) a ch p) := by
    blk_simp [iblk]
    congr 1
    blk_ext [index_1, image]
  rw [hv, V_map1]
  exact merged_apply shapeCasts_S16x255x38x38_S16x3x85x1444 rfl _ (image t) a ch p h w e
theorem map_2 (t : Fin cfg0.N) : MapOf (m (Thread.loc c.tc main_arg2)) (image t) (iblk m c 2 t) := by
  intro a ch p h w e
  have hv : iblk m c 2 t (ix4 0 a ch p) = V m c main_v2 (ix4 (image t) a ch p) := by
    blk_simp [iblk]
    congr 1
    blk_ext [index_2, image]
  rw [hv, V_map2]
  exact merged_apply shapeCasts_S16x255x19x19_S16x3x85x361 rfl _ (image t) a ch p h w e

/-- A table's block is the grid's table. -/
theorem table_0 (t : Fin cfg0.N) : TableFor 76 0x41000000#32 0x40866666#32 (iblk m c 3 t) := by
  intro j p
  have hv : iblk m c 3 t (ix2 j p) = V m c main_v24 (ix2 j p) := by
    blk_simp [iblk]
    congr 1
    blk_ext [index_3]
  rw [hv, V_table0]
  exact table_apply tableOf0 76 (by decide) (by decide) (by decide) _ _ j p
theorem table_1 (t : Fin cfg0.N) : TableFor 38 0x41800000#32 0x41066666#32 (iblk m c 4 t) := by
  intro j p
  have hv : iblk m c 4 t (ix2 j p) = V m c main_v46 (ix2 j p) := by
    blk_simp [iblk]
    congr 1
    blk_ext [index_4]
  rw [hv, V_table1]
  exact table_apply tableOf1 38 (by decide) (by decide) (by decide) _ _ j p
theorem table_2 (t : Fin cfg0.N) : TableFor 19 0x42000000#32 0x41866666#32 (iblk m c 5 t) := by
  intro j p
  have hv : iblk m c 5 t (ix2 j p) = V m c main_v68 (ix2 j p) := by
    blk_simp [iblk]
    congr 1
    blk_ext [index_5]
  rw [hv, V_table2]
  exact table_apply tableOf2 19 (by decide) (by decide) (by decide) _ _ j p

/-! ## The result -/

/-- The reference's result on the kernel's arguments. -/
def target : Buf (Elt Ideal) (Thread.loc (c.tc : Thread nD τ) main_v69) :=
  result (m (Thread.loc c.tc main_arg0)) (m (Thread.loc c.tc main_arg1)) (m (Thread.loc c.tc main_arg2))

/-- The result array ends holding it. -/
theorem array_eq : (dats m 0 c).arrAt 6 cfg0.N = target m c := by
  refine (dats m 0 c).arrAt_eq_of_covers 6 (target m c) (by decide +kernel) fun t _ y => ?_
  have he : ((cfg0.win 6).blk t).view.emb y = ix3 (image t) (y 1) (y 2) := by
    blk_ext [index_6, image]
  rw [he]
  blk_simp
  rw [after_6]
  exact outBlock_eq _ _ _ (image t) _ _ _ _ _ _ (map_0 m c t) (map_1 m c t) (map_2 m c t) (table_0 m c t) (table_1 m c t)
    (table_2 m c t) y

end Cert.Decode

end
-- ==== Proof.lean ====
/-
  The certificate's claims, assembled: the three frames, the idealization, and that the idealized kernel and the
  idealized reference end with equal results (`value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Body
public import proofs.«01_k».proof.Proof.Same
public import proofs.«01_k».proof.Proof.Reference
public import proofs.«01_k».proof.Proof.Array
public import Idealize.ShloMosaic.Lib.Claim
public import Idealize.ShloMosaic.Adequacy
public import Idealize.ShloMosaic.Lib.Quiescent
public import Idealize.ShloMosaic.Init

@[expose] public section

noncomputable section

namespace Cert.Proof

open Idealize.ShloMosaic Idealize.SL.Sem

/-- The idealized kernel's frame. -/
theorem frame_kernel_ideal : Cert.quiescent_KernelIdeal (hKernelIdeal := Cert.KernelIdeal.Gen.facts) := fun m ρ _ =>
  Cert.KernelIdeal.Run.frame (F := Ideal) m ρ

/-- The idealized reference's frame: a run of host operations, in a program that declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2.1, (h c).2.2.2⟩, sem_eq_zero_of_no_sems rfl r.2⟩)
    (Cert.ReferenceIdeal.Value.run (F := Ideal) m ρ)

/-- The idealized kernel and the idealized reference end with equal results: the kernel's result array is the
    reference's function of the arguments. -/
theorem value : Cert.algebraic_KernelIdeal_ReferenceIdeal (hKernelIdeal := Cert.KernelIdeal.Gen.facts)
    (hReferenceIdeal := Cert.ReferenceIdeal.Gen.facts) := fun m ρ m' ρ' _ hargs =>
  ⟨fun c => Cert.Decode.target m c,
    (θ_run Cert.KernelIdeal.defs _ _).mono
      (fun _ h c => ⟨(h.1.1.out_eq c 6).trans (Cert.Decode.array_eq m c), (h.2.1 c).1, (h.2.1 c).2.1, (h.2.1 c).2.2⟩)
      (θ_run_and (Cert.KernelIdeal.Run.run_main (F := Ideal) m ρ) (Cert.KernelIdeal.Run.frame (F := Ideal) m ρ)),
    (θ_run Cert.ReferenceIdeal.defs _ _).mono
      (fun _ h c => ⟨(h c).1.trans ((Cert.Decode.res_eq m' c).trans (by
          rw [(hargs c).1, (hargs c).2.1, (hargs c).2.2]; rfl)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.Same.frame_kernel, frame_kernel_ideal, frame_reference, trivial, value⟩

end Cert.Proof

end
